-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_stats [hPre_stats : Cert.Pre_stats.Facts] (m : (ℓ : Loc Cert.KernelIdeal.nD Cert.KernelIdeal.τ Cert.KernelIdeal.sig) → Buf (Elt Ideal) ℓ) : Prop :=
  ∀ c : Dev Cert.KernelIdeal.nD,
    (Cert.Pre_stats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_stats [hPre_stats : Cert.Pre_stats.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Kernel2Ideal_cells [hPre_cells : Cert.Pre_cells.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_cells.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_cells [hPre_cells : Cert.Pre_cells.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_cells.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_stats [hKernelIdeal : Cert.KernelIdeal.Facts] [hPre_stats : Cert.Pre_stats.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stats m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_stats [hReferenceIdeal : Cert.ReferenceIdeal.Facts] [hPre_stats : Cert.Pre_stats.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stats m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_cells [hKernel2Ideal : Cert.Kernel2Ideal.Facts] [hPre_cells : Cert.Pre_cells.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_cells m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_cells [hReference2Ideal : Cert.Reference2Ideal.Facts] [hPre_cells : Cert.Pre_cells.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_cells m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def preserves_Kernel_KernelIdeal : Prop :=
  True

def algebraic_KernelIdeal_ReferenceIdeal_pre_stats [hKernelIdeal : Cert.KernelIdeal.Facts] [hReferenceIdeal : Cert.ReferenceIdeal.Facts] [hPre_stats : Cert.Pre_stats.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stats m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_cells [hKernel2Ideal : Cert.Kernel2Ideal.Facts] [hReference2Ideal : Cert.Reference2Ideal.Facts] [hPre_cells : Cert.Pre_cells.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_cells m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_arg0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_arg0) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_stats : Cert.Pre_stats.Facts) (hPre_in_range : Cert.Pre_in_range.Facts) (hPre_cells : Cert.Pre_cells.Facts),
    quiescent_Kernel (hKernel := hKernel)
    ∧ quiescent_KernelIdeal (hKernelIdeal := hKernelIdeal)
    ∧ quiescent_KernelIdeal_pre_stats (hKernelIdeal := hKernelIdeal) (hPre_stats := hPre_stats)
    ∧ quiescent_ReferenceIdeal (hReferenceIdeal := hReferenceIdeal)
    ∧ quiescent_ReferenceIdeal_pre_stats (hReferenceIdeal := hReferenceIdeal) (hPre_stats := hPre_stats)
    ∧ quiescent_Kernel2 (hKernel2 := hKernel2) (hPre_in_range := hPre_in_range)
    ∧ quiescent_Kernel2Ideal (hKernel2Ideal := hKernel2Ideal) (hPre_in_range := hPre_in_range)
    ∧ quiescent_Kernel2Ideal_pre_cells (hKernel2Ideal := hKernel2Ideal) (hPre_cells := hPre_cells)
    ∧ quiescent_Reference2Ideal (hReference2Ideal := hReference2Ideal)
    ∧ quiescent_Reference2Ideal_pre_cells (hReference2Ideal := hReference2Ideal) (hPre_cells := hPre_cells)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_stats (hKernelIdeal := hKernelIdeal) (hReferenceIdeal := hReferenceIdeal) (hPre_stats := hPre_stats)
    ∧ preserves_Kernel2_Kernel2Ideal
    ∧ algebraic_Kernel2Ideal_Reference2Ideal_pre_cells (hKernel2Ideal := hKernel2Ideal) (hReference2Ideal := hReference2Ideal) (hPre_cells := hPre_cells)
    ∧ preserves_Kernel3_Kernel3Ideal
    ∧ algebraic_Kernel3Ideal_Reference3Ideal (hKernel3Ideal := hKernel3Ideal) (hReference3Ideal := hReference3Ideal)
-- ==== Pre_cells.lean ====
abbrev S8x1x65536 : Shape := ⟨3, ![8, 1, 65536]⟩
abbrev S8x8x65536 : Shape := ⟨3, ![8, 8, 65536]⟩
abbrev S8x32768x64 : Shape := ⟨3, ![8, 32768, 64]⟩
abbrev S1x8x1 : Shape := ⟨3, ![1, 8, 1]⟩
abbrev S_ : Shape := ⟨0, ![]⟩

class Facts : Prop where
  bcast_S_S1x8x1 : S_.BroadcastsInDim S1x8x1 (![] : Fin 0 → Fin S1x8x1.rank)
  bcast_S_S8x1x65536 : S_.BroadcastsInDim S8x1x65536 (![] : Fin 0 → Fin S8x1x65536.rank)
  bcast_S1x8x1_S8x8x65536_0_1_2 : S1x8x1.BroadcastsInDim S8x8x65536 (![0, 1, 2] : Fin 3 → Fin S8x8x65536.rank)
  bcast_S8x1x65536_S8x8x65536_0_1_2 : S8x1x65536.BroadcastsInDim S8x8x65536 (![0, 1, 2] : Fin 3 → Fin S8x8x65536.rank)
  reducesTo_S8x1x65536_S_d0_1_2 : S8x1x65536.ReducesTo [0, 1, 2] S_
  h_S_ : 0 < S_.numel
  bcast_S_S8x8x65536 : S_.BroadcastsInDim S8x8x65536 (![] : Fin 0 → Fin S8x8x65536.rank)
  reducesTo_S8x8x65536_S_d0_1_2 : S8x8x65536.ReducesTo [0, 1, 2] S_

variable [Facts]

def fn_where {F : FTy → Type} [FloatOps F] (arg0 : IVec S8x8x65536 1) (arg1 : FVec F S8x8x65536 .f32) (arg2 : FVec F S_ .f32) : FVec F S8x8x65536 .f32 :=
  let v0 : FVec F S_ .f32 := id arg2
  let v1 : FVec F S8x8x65536 .f32 := broadcastInDim S8x8x65536 ![] bcast_S_S8x8x65536 v0
  let v2 : FVec F S8x8x65536 .f32 := select arg0 arg1 v1
  v2

def fn_part2 {F : FTy → Type} [FloatOps F] (main_arg0 : IVec S8x1x65536 32) (main_arg1 : FVec F S8x8x65536 .f32) (main_v25 : IVec S8x8x65536 1) (main_v33 : IVec S8x1x65536 1) (main_v34 : IVec S8x8x65536 1) : IVec S_ 1 :=
  let main_v35 : IVec S8x8x65536 1 := broadcastInDim S8x8x65536 ![0, 1, 2] bcast_S8x1x65536_S8x8x65536_0_1_2 main_v33
  let main_v36 : IVec S8x8x65536 1 := andi main_v34 main_v35
  let main_v37 : IVec S8x8x65536 1 := ori main_v25 main_v36
  let main_c_12 : IVec S_ 32 := constantI S_ 32 0#32
  let main_v38 : IVec S8x1x65536 32 := broadcastInDim S8x1x65536 ![] bcast_S_S8x1x65536 main_c_12
  let main_v39 : IVec S8x1x65536 1 := cmpi .sge main_arg0 main_v38
  let main_c_13 : IVec S_ 32 := constantI S_ 32 32768#32
  let main_v40 : IVec S8x1x65536 32 := broadcastInDim S8x1x65536 ![] bcast_S_S8x1x65536 main_c_13
  let main_v41 : IVec S8x1x65536 1 := cmpi .slt main_arg0 main_v40
  let main_v42 : IVec S8x1x65536 1 := andi main_v39 main_v41
  let main_c_14 : IVec S_ 1 := constantI S_ 1 1#1
  let main_v43 : IVec S_ 1 := (fun x v => Host.reduce IntOp.andi x v reducesTo_S8x1x65536_S_d0_1_2 h_S_) main_v42 main_c_14
  let main_cst : FVec F S_ .f32 := constant S_ .f32 0x00000000#32
  let main_v44 : FVec F S8x8x65536 .f32 := fn_where (F := F) main_v37 main_arg1 main_cst
  let main_cst_15 : FVec F S_ .f32 := constant S_ .f32 0x00000000#32
  let main_v45 : FVec F S8x8x65536 .f32 := broadcastInDim S8x8x65536 ![] bcast_S_S8x8x65536 main_cst_15
  let main_v46 : IVec S8x8x65536 1 := cmpf .oeq main_v44 main_v45
  let main_c_16 : IVec S_ 1 := constantI S_ 1 1#1
  let main_v47 : IVec S_ 1 := (fun x v => Host.reduce IntOp.andi x v reducesTo_S8x8x65536_S_d0_1_2 h_S_) main_v46 main_c_16
  let main_v48 : IVec S_ 1 := andi main_v43 main_v47
  main_v48

def fn_part1 {F : FTy → Type} [FloatOps F] (main_arg0 : IVec S8x1x65536 32) (main_arg1 : FVec F S8x8x65536 .f32) (main_v0 : IVec S1x8x1 32) (main_v11 : IVec S8x8x65536 1) (main_v15 : IVec S1x8x1 1) (main_v16 : IVec S8x1x65536 32) : IVec S_ 1 :=
  let main_v17 : IVec S8x1x65536 32 := Host.shrsi main_arg0 main_v16
  let main_c_6 : IVec S_ 32 := constantI S_ 32 31#32
  let main_v18 : IVec S8x1x65536 32 := broadcastInDim S8x1x65536 ![] bcast_S_S8x1x65536 main_c_6
  let main_v19 : IVec S8x1x65536 32 := andi main_v17 main_v18
  let main_c_7 : IVec S_ 32 := constantI S_ 32 31#32
  let main_v20 : IVec S8x1x65536 32 := broadcastInDim S8x1x65536 ![] bcast_S_S8x1x65536 main_c_7
  let main_v21 : IVec S8x1x65536 1 := cmpi .eq main_v19 main_v20
  let main_v22 : IVec S8x8x65536 1 := broadcastInDim S8x8x65536 ![0, 1, 2] bcast_S1x8x1_S8x8x65536_0_1_2 main_v15
  let main_v23 : IVec S8x8x65536 1 := broadcastInDim S8x8x65536 ![0, 1, 2] bcast_S8x1x65536_S8x8x65536_0_1_2 main_v21
  let main_v24 : IVec S8x8x65536 1 := andi main_v22 main_v23
  let main_v25 : IVec S8x8x65536 1 := ori main_v11 main_v24
  let main_c_8 : IVec S_ 32 := constantI S_ 32 1#32
  let main_v26 : IVec S1x8x1 32 := broadcastInDim S1x8x1 ![] bcast_S_S1x8x1 main_c_8
  let main_v27 : IVec S1x8x1 32 := andi main_v0 main_v26
  let main_c_9 : IVec S_ 32 := constantI S_ 32 0#32
  let main_v28 : IVec S1x8x1 32 := broadcastInDim S1x8x1 ![] bcast_S_S1x8x1 main_c_9
  let main_v29 : IVec S1x8x1 1 := cmpi .ne main_v27 main_v28
  let main_c_10 : IVec S_ 32 := constantI S_ 32 31#32
  let main_v30 : IVec S8x1x65536 32 := broadcastInDim S8x1x65536 ![] bcast_S_S8x1x65536 main_c_10
  let main_v31 : IVec S8x1x65536 32 := andi main_arg0 main_v30
  let main_c_11 : IVec S_ 32 := constantI S_ 32 31#32
  let main_v32 : IVec S8x1x65536 32 := broadcastInDim S8x1x65536 ![] bcast_S_S8x1x65536 main_c_11
  let main_v33 : IVec S8x1x65536 1 := cmpi .eq main_v31 main_v32
  let main_v34 : IVec S8x8x65536 1 := broadcastInDim S8x8x65536 ![0, 1, 2] bcast_S1x8x1_S8x8x65536_0_1_2 main_v29
  fn_part2 (F := F) main_arg0 main_arg1 main_v25 main_v33 main_v34

def fn {F : FTy → Type} [FloatOps F] (main_arg0 : IVec S8x1x65536 32) (main_arg1 : FVec F S8x8x65536 .f32) (main_arg2 : FVec F S8x32768x64 .f32) : IVec S_ 1 :=
  let main_v0 : IVec S1x8x1 32 := iotaInDim S1x8x1 32 1
  let main_c : IVec S_ 32 := constantI S_ 32 4#32
  let main_v1 : IVec S1x8x1 32 := broadcastInDim S1x8x1 ![] bcast_S_S1x8x1 main_c
  let main_v2 : IVec S1x8x1 32 := andi main_v0 main_v1
  let main_c_0 : IVec S_ 32 := constantI S_ 32 0#32
  let main_v3 : IVec S1x8x1 32 := broadcastInDim S1x8x1 ![] bcast_S_S1x8x1 main_c_0
  let main_v4 : IVec S1x8x1 1 := cmpi .ne main_v2 main_v3
  let main_c_1 : IVec S_ 32 := constantI S_ 32 10#32
  let main_v5 : IVec S8x1x65536 32 := broadcastInDim S8x1x65536 ![] bcast_S_S8x1x65536 main_c_1
  let main_v6 : IVec S8x1x65536 32 := Host.shrsi main_arg0 main_v5
  let main_c_2 : IVec S_ 32 := constantI S_ 32 31#32
  let main_v7 : IVec S8x1x65536 32 := broadcastInDim S8x1x65536 ![] bcast_S_S8x1x65536 main_c_2
  let main_v8 : IVec S8x1x65536 1 := cmpi .eq main_v6 main_v7
  let main_v9 : IVec S8x8x65536 1 := broadcastInDim S8x8x65536 ![0, 1, 2] bcast_S1x8x1_S8x8x65536_0_1_2 main_v4
  let main_v10 : IVec S8x8x65536 1 := broadcastInDim S8x8x65536 ![0, 1, 2] bcast_S8x1x65536_S8x8x65536_0_1_2 main_v8
  let main_v11 : IVec S8x8x65536 1 := andi main_v9 main_v10
  let main_c_3 : IVec S_ 32 := constantI S_ 32 2#32
  let main_v12 : IVec S1x8x1 32 := broadcastInDim S1x8x1 ![] bcast_S_S1x8x1 main_c_3
  let main_v13 : IVec S1x8x1 32 := andi main_v0 main_v12
  let main_c_4 : IVec S_ 32 := constantI S_ 32 0#32
  let main_v14 : IVec S1x8x1 32 := broadcastInDim S1x8x1 ![] bcast_S_S1x8x1 main_c_4
  let main_v15 : IVec S1x8x1 1 := cmpi .ne main_v13 main_v14
  let main_c_5 : IVec S_ 32 := constantI S_ 32 5#32
  let main_v16 : IVec S8x1x65536 32 := broadcastInDim S8x1x65536 ![] bcast_S_S8x1x65536 main_c_5
  fn_part1 (F := F) main_arg0 main_arg1 main_v0 main_v11 main_v15 main_v16
-- ==== Pre_in_range.lean ====
abbrev S8x1x65536 : Shape := ⟨3, ![8, 1, 65536]⟩
abbrev S8x8x65536 : Shape := ⟨3, ![8, 8, 65536]⟩
abbrev S8x32768x64 : Shape := ⟨3, ![8, 32768, 64]⟩
abbrev S_ : Shape := ⟨0, ![]⟩

class Facts : Prop where
  bcast_S_S8x1x65536 : S_.BroadcastsInDim S8x1x65536 (![] : Fin 0 → Fin S8x1x65536.rank)
  reducesTo_S8x1x65536_S_d0_1_2 : S8x1x65536.ReducesTo [0, 1, 2] S_
  h_S_ : 0 < S_.numel

variable [Facts]

def fn {F : FTy → Type} [FloatOps F] (main_arg0 : IVec S8x1x65536 32) (main_arg1 : FVec F S8x8x65536 .f32) (main_arg2 : FVec F S8x32768x64 .f32) : IVec S_ 1 :=
  let main_c : IVec S_ 32 := constantI S_ 32 0#32
  let main_v0 : IVec S8x1x65536 32 := broadcastInDim S8x1x65536 ![] bcast_S_S8x1x65536 main_c
  let main_v1 : IVec S8x1x65536 1 := cmpi .sge main_arg0 main_v0
  let main_c_0 : IVec S_ 32 := constantI S_ 32 32768#32
  let main_v2 : IVec S8x1x65536 32 := broadcastInDim S8x1x65536 ![] bcast_S_S8x1x65536 main_c_0
  let main_v3 : IVec S8x1x65536 1 := cmpi .slt main_arg0 main_v2
  let main_v4 : IVec S8x1x65536 1 := andi main_v1 main_v3
  let main_c_1 : IVec S_ 1 := constantI S_ 1 1#1
  let main_v5 : IVec S_ 1 := (fun x v => Host.reduce IntOp.andi x v reducesTo_S8x1x65536_S_d0_1_2 h_S_) main_v4 main_c_1
  main_v5
-- ==== Pre_stats.lean ====
abbrev S8x32768x64 : Shape := ⟨3, ![8, 32768, 64]⟩
abbrev S64x64x3x3x3 : Shape := ⟨5, ![64, 64, 3, 3, 3]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn_part1 {F : FTy → Type} [FloatOps F] (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  main_v17

def fn {F : FTy → Type} [FloatOps F] (main_arg0 : FVec F S8x32768x64 .f32) (main_arg1 : FVec F S64x64x3x3x3 .f32) (main_arg2 : FVec F S64 .f32) (main_arg3 : FVec F S64 .f32) (main_arg4 : FVec F S64 .f32) (main_arg5 : FVec F S64 .f32) (main_arg6 : FVec F S64 .f32) : IVec S_ 1 :=
  let main_v0 : FVec F S64 .f32 := Host.absf main_arg2
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_cst_4 : FVec F S_ .f32 := constant S_ .f32 0x00000000#32
  let main_v14 : FVec F S64 .f32 := broadcastInDim S64 ![] bcast_S_S64 main_cst_4
  let main_v15 : IVec S64 1 := cmpf .oge main_arg6 main_v14
  let main_c_5 : IVec S_ 1 := constantI S_ 1 1#1
  fn_part1 (F := F) main_v13 main_v15 main_c_5
-- ==== Kernel.lean ====
abbrev S8x32768x64 : Shape := ⟨3, ![8, 32768, 64]⟩
abbrev S64x64x3x3x3 : Shape := ⟨5, ![64, 64, 3, 3, 3]⟩
abbrev S64 : Shape := ⟨1, ![64]⟩
abbrev S_ : Shape := ⟨0, ![]⟩
abbrev S3x3x3x64x64 : Shape := ⟨5, ![3, 3, 3, 64, 64]⟩
abbrev S3x3x192x64 : Shape := ⟨4, ![3, 3, 192, 64]⟩
abbrev S1x64 : Shape := ⟨2, ![1, 64]⟩
abbrev S1x1024x64 : Shape := ⟨3, ![1, 1024, 64]⟩
abbrev S3264x192 : Shape := ⟨2, ![3264, 192]⟩
abbrev S1024x64 : Shape := ⟨2, ![1024, 64]⟩
abbrev S1023x64 : Shape := ⟨2, ![1023, 64]⟩
abbrev S32x192 : Shape := ⟨2, ![32, 192]⟩
abbrev S1024x192 : Shape := ⟨2, ![1024, 192]⟩
abbrev S1x1x192x64 : Shape := ⟨4, ![1, 1, 192, 64]⟩
abbrev S192x64 : Shape := ⟨2, ![192, 64]⟩

abbrev nBuf : Space → Nat
  | .hbm => 21
  | .vmem => 12
  | .smem => 0
  | _ => 0

abbrev bufTy : (tb : Table) → Fin (tcTables nBuf tb) → BufTy
  | .hbm, ⟨0, _⟩ => ⟨S8x32768x64, .f32⟩
  | .hbm, ⟨1, _⟩ => ⟨S64x64x3x3x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S3x3x3x64x64, .f32⟩
  | .hbm, ⟨16, _⟩ => ⟨S3x3x192x64, .f32⟩
  | .hbm, ⟨17, _⟩ => ⟨S3x3x192x64, .bf16⟩
  | .hbm, ⟨18, _⟩ => ⟨S1x64, .f32⟩
  | .hbm, ⟨19, _⟩ => ⟨S1x64, .f32⟩
  | .hbm, ⟨20, _⟩ => ⟨S8x32768x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S3x3x192x64, .bf16⟩
  | .local _ .vmem, ⟨7, _⟩ => ⟨S1x64, .f32⟩
  | .local _ .vmem, ⟨8, _⟩ => ⟨S1x64, .f32⟩
  | .local _ .vmem, ⟨9, _⟩ => ⟨S1x1024x64, .f32⟩
  | .local _ .vmem, ⟨10, _⟩ => ⟨S1x1024x64, .f32⟩
  | .local _ .vmem, ⟨11, _⟩ => ⟨S3264x192, .bf16⟩
  | _, _ => ⟨S8x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3x192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x32768x64 : Shape := ⟨3, ![8, 32768, 64]⟩
abbrev S64x64x3x3x3 : Shape := ⟨5, ![64, 64, 3, 3, 3]⟩
abbrev S64 : Shape := ⟨1, ![64]⟩
abbrev S8x32x32x32x64 : Shape := ⟨5, ![8, 32, 32, 32, 64]⟩
abbrev S_ : Shape := ⟨0, ![]⟩
abbrev S8x34x34x34x64 : Shape := ⟨5, ![8, 34, 34, 34, 64]⟩
abbrev S64x64x1x1x1 : Shape := ⟨5, ![64, 64, 1, 1, 1]⟩
abbrev S64x64 : Shape := ⟨2, ![64, 64]⟩
abbrev S1x1x1x1x64 : Shape := ⟨5, ![1, 1, 1, 1, 64]⟩

abbrev nBuf : Space → Nat
  | .hbm => 173
  | .vmem => 0
  | .smem => 0
  | _ => 0

abbrev hbmTy0_0 (i : Nat) : BufTy := match i % 128 with
  | 0 => ⟨S8x32768x64, .f32⟩
  | 1 => ⟨S64x64x3x3x3, .f32⟩
  | 2 => ⟨S64, .f32⟩
  | 3 => ⟨S64, .f32⟩
  | 4 => ⟨S64, .f32⟩
  | 5 => ⟨S64, .f32⟩
  | 6 => ⟨S64, .f32⟩
  | 7 => ⟨S8x32x32x32x64, .f32⟩
  | 8 => ⟨S_, .i32⟩
  | 9 => ⟨S_, .f32⟩
  | 10 => ⟨S8x34x34x34x64, .f32⟩
  | 11 => ⟨S_, .f32⟩
  | 12 => ⟨S8x32x32x32x64, .f32⟩
  | 13 => ⟨S8x32x32x32x64, .f32⟩
  | 14 => ⟨S64x64x1x1x1, .f32⟩
  | 15 => ⟨S64x64, .f32⟩
  | 16 => ⟨S8x32x32x32x64, .f32⟩
  | 17 => ⟨S8x32x32x32x64, .f32⟩
  | 18 => ⟨S8x32x32x32x64, .f32⟩
  | 19 => ⟨S64x64x1x1x1, .f32⟩
  | 20 => ⟨S64x64, .f32⟩
  | 21 => ⟨S8x32x32x32x64, .f32⟩
  | 22 => ⟨S8x32x32x32x64, .f32⟩
  | 23 => ⟨S8x32x32x32x64, .f32⟩
  | 24 => ⟨S64x64x1x1x1, .f32⟩
  | 25 => ⟨S64x64, .f32⟩
  | 26 => ⟨S8x32x32x32x64, .f32⟩
  | 27 => ⟨S8x32x32x32x64, .f32⟩
  | 28 => ⟨S8x32x32x32x64, .f32⟩
  | 29 => ⟨S64x64x1x1x1, .f32⟩
  | 30 => ⟨S64x64, .f32⟩
  | 31 => ⟨S8x32x32x32x64, .f32⟩
  | 32 => ⟨S8x32x32x32x64, .f32⟩
  | 33 => ⟨S8x32x32x32x64, .f32⟩
  | 34 => ⟨S64x64x1x1x1, .f32⟩
  | 35 => ⟨S64x64, .f32⟩
  | 36 => ⟨S8x32x32x32x64, .f32⟩
  | 37 => ⟨S8x32x32x32x64, .f32⟩
  | 38 => ⟨S8x32x32x32x64, .f32⟩
  | 39 => ⟨S64x64x1x1x1, .f32⟩
  | 40 => ⟨S64x64, .f32⟩
  | 41 => ⟨S8x32x32x32x64, .f32⟩
  | 42 => ⟨S8x32x32x32x64, .f32⟩
  | 43 => ⟨S8x32x32x32x64, .f32⟩
  | 44 => ⟨S64x64x1x1x1, .f32⟩
  | 45 => ⟨S64x64, .f32⟩
  | 46 => ⟨S8x32x32x32x64, .f32⟩
  | 47 => ⟨S8x32x32x32x64, .f32⟩
  | 48 => ⟨S8x32x32x32x64, .f32⟩
  | 49 => ⟨S64x64x1x1x1, .f32⟩
  | 50 => ⟨S64x64, .f32⟩
  | 51 => ⟨S8x32x32x32x64, .f32⟩
  | 52 => ⟨S8x32x32x32x64, .f32⟩
  | 53 => ⟨S8x32x32x32x64, .f32⟩
  | 54 => ⟨S64x64x1x1x1, .f32⟩
  | 55 => ⟨S64x64, .f32⟩
  | 56 => ⟨S8x32x32x32x64, .f32⟩
  | 57 => ⟨S8x32x32x32x64, .f32⟩
  | 58 => ⟨S8x32x32x32x64, .f32⟩
  | 59 => ⟨S64x64x1x1x1, .f32⟩
  | 60 => ⟨S64x64, .f32⟩
  | 61 => ⟨S8x32x32x32x64, .f32⟩
  | 62 => ⟨S8x32x32x32x64, .f32⟩
  | 63 => ⟨S8x32x32x32x64, .f32⟩
  | 64 => ⟨S64x64x1x1x1, .f32⟩
  | 65 => ⟨S64x64, .f32⟩
  | 66 => ⟨S8x32x32x32x64, .f32⟩
  | 67 => ⟨S8x32x32x32x64, .f32⟩
  | 68 => ⟨S8x32x32x32x64, .f32⟩
  | 69 => ⟨S64x64x1x1x1, .f32⟩
  | 70 => ⟨S64x64, .f32⟩
  | 71 => ⟨S8x32x32x32x64, .f32⟩
  | 72 => ⟨S8x32x32x32x64, .f32⟩
  | 73 => ⟨S8x32x32x32x64, .f32⟩
  | 74 => ⟨S64x64x1x1x1, .f32⟩
  | 75 => ⟨S64x64, .f32⟩
  | 76 => ⟨S8x32x32x32x64, .f32⟩
  | 77 => ⟨S8x32x32x32x64, .f32⟩
  | 78 => ⟨S8x32x32x32x64, .f32⟩
  | 79 => ⟨S64x64x1x1x1, .f32⟩
  | 80 => ⟨S64x64, .f32⟩
  | 81 => ⟨S8x32x32x32x64, .f32⟩
  | 82 => ⟨S8x32x32x32x64, .f32⟩
  | 83 => ⟨S8x32x32x32x64, .f32⟩
  | 84 => ⟨S64x64x1x1x1, .f32⟩
  | 85 => ⟨S64x64, .f32⟩
  | 86 => ⟨S8x32x32x32x64, .f32⟩
  | 87 => ⟨S8x32x32x32x64, .f32⟩
  | 88 => ⟨S8x32x32x32x64, .f32⟩
  | 89 => ⟨S64x64x1x1x1, .f32⟩
  | 90 => ⟨S64x64, .f32⟩
  | 91 => ⟨S8x32x32x32x64, .f32⟩
  | 92 => ⟨S8x32x32x32x64, .f32⟩
  | 93 => ⟨S8x32x32x32x64, .f32⟩
  | 94 => ⟨S64x64x1x1x1, .f32⟩
  | 95 => ⟨S64x64, .f32⟩
  | 96 => ⟨S8x32x32x32x64, .f32⟩
  | 97 => ⟨S8x32x32x32x64, .f32⟩
  | 98 => ⟨S8x32x32x32x64, .f32⟩
  | 99 => ⟨S64x64x1x1x1, .f32⟩
  | 100 => ⟨S64x64, .f32⟩
  | 101 => ⟨S8x32x32x32x64, .f32⟩
  | 102 => ⟨S8x32x32x32x64, .f32⟩
  | 103 => ⟨S8x32x32x32x64, .f32⟩
  | 104 => ⟨S64x64x1x1x1, .f32⟩
  | 105 => ⟨S64x64, .f32⟩
  | 106 => ⟨S8x32x32x32x64, .f32⟩
  | 107 => ⟨S8x32x32x32x64, .f32⟩
  | 108 => ⟨S8x32x32x32x64, .f32⟩
  | 109 => ⟨S64x64x1x1x1, .f32⟩
  | 110 => ⟨S64x64, .f32⟩
  | 111 => ⟨S8x32x32x32x64, .f32⟩
  | 112 => ⟨S8x32x32x32x64, .f32⟩
  | 113 => ⟨S8x32x32x32x64, .f32⟩
  | 114 => ⟨S64x64x1x1x1, .f32⟩
  | 115 => ⟨S64x64, .f32⟩
  | 116 => ⟨S8x32x32x32x64, .f32⟩
  | 117 => ⟨S8x32x32x32x64, .f32⟩
  | 118 => ⟨S8x32x32x32x64, .f32⟩
  | 119 => ⟨S64x64x1x1x1, .f32⟩
  | 120 => ⟨S64x64, .f32⟩
  | 121 => ⟨S8x32x32x32x64, .f32⟩
  | 122 => ⟨S8x32x32x32x64, .f32⟩
  | 123 => ⟨S8x32x32x32x64, .f32⟩
  | 124 => ⟨S64x64x1x1x1, .f32⟩
  | 125 => ⟨S64x64, .f32⟩
  | 126 => ⟨S8x32x32x32x64, .f32⟩
  | 127 => ⟨S8x32x32x32x64, .f32⟩
  | _ => ⟨S8x32768x64, .f32⟩

abbrev hbmTy0_1 (i : Nat) : BufTy := match i % 128 with
  | 0 => ⟨S8x32x32x32x64, .f32⟩
  | 1 => ⟨S64x64x1x1x1, .f32⟩
  | 2 => ⟨S64x64, .f32⟩
  | 3 => ⟨S8x32x32x32x64, .f32⟩
  | 4 => ⟨S8x32x32x32x64, .f32⟩
  | 5 => ⟨S8x32x32x32x64, .f32⟩
  | 6 => ⟨S64x64x1x1x1, .f32⟩
  | 7 => ⟨S64x64, .f32⟩
  | 8 => ⟨S8x32x32x32x64, .f32⟩
  | 9 => ⟨S8x32x32x32x64, .f32⟩
  | 10 => ⟨S8x32x32x32x64, .f32⟩
  | 11 => ⟨S64x64x1x1x1, .f32⟩
  | 12 => ⟨S64x64, .f32⟩
  | 13 => ⟨S8x32x32x32x64, .f32⟩
  | 14 => ⟨S8x32x32x32x64, .f32⟩
  | 15 => ⟨S8x32x32x32x64, .f32⟩
  | 16 => ⟨S64x64x1x1x1, .f32⟩
  | 17 => ⟨S64x64, .f32⟩
  | 18 => ⟨S8x32x32x32x64, .f32⟩
  | 19 => ⟨S8x32x32x32x64, .f32⟩
  | 20 => ⟨S1x1x1x1x64, .f32⟩
  | 21 => ⟨S8x32x32x32x64, .f32⟩
  | 22 => ⟨S8x32x32x32x64, .f32⟩
  | 23 => ⟨S_, .f32⟩
  | 24 => ⟨S64, .f32⟩
  | 25 => ⟨S64, .f32⟩
  | 26 => ⟨S64, .f32⟩
  | 27 => ⟨S64, .f32⟩
  | 28 => ⟨S1x1x1x1x64, .f32⟩
  | 29 => ⟨S8x32x32x32x64, .f32⟩
  | 30 => ⟨S8x32x32x32x64, .f32⟩
  | 31 => ⟨S1x1x1x1x64, .f32⟩
  | 32 => ⟨S8x32x32x32x64, .f32⟩
  | 33 => ⟨S8x32x32x32x64, .f32⟩
  | 34 => ⟨S1x1x1x1x64, .f32⟩
  | 35 => ⟨S8x32x32x32x64, .f32⟩
  | 36 => ⟨S8x32x32x32x64, .f32⟩
  | 37 => ⟨S_, .f32⟩
  | 38 => ⟨S8x32x32x32x64, .f32⟩
  | 39 => ⟨S8x32x32x32x64, .i1⟩
  | 40 => ⟨S_, .f32⟩
  | 41 => ⟨S8x32x32x32x64, .f32⟩
  | 42 => ⟨S8x32x32x32x64, .f32⟩
  | 43 => ⟨S8x32x32x32x64, .f32⟩
  | 44 => ⟨S8x32768x64, .f32⟩
  | _ => ⟨S8x32768x64, .f32⟩

abbrev hbmTy (i : Nat) : BufTy := match i / 128 with
  | 0 => hbmTy0_0 i
  | 1 => hbmTy0_1 i
  | _ => ⟨S8x32768x64, .f32⟩

abbrev bufTy : (tb : Table) → Fin (tcTables nBuf tb) → BufTy
  | .hbm, ⟨i, _⟩ => hbmTy i
  | _, _ => ⟨S8x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_cst_0 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_cst_1 : Ref sig .tc := ⟨.hbm, 165, rfl⟩
abbrev main_v154 : Ref sig .tc := ⟨.hbm, 166, rfl⟩
abbrev main_v155 : Ref sig .tc := ⟨.hbm, 167, rfl⟩
abbrev main_cst_2 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩

abbrev nD : Nat := 1
abbrev τ : Topo := Topo.v7x

variable {F : FTy → Type} [FloatOps F]
-- ==== Kernel2.lean ====
abbrev S8x1x65536 : Shape := ⟨3, ![8, 1, 65536]⟩
abbrev S8x8x65536 : Shape := ⟨3, ![8, 8, 65536]⟩
abbrev S8x32768x64 : Shape := ⟨3, ![8, 32768, 64]⟩
abbrev S_ : Shape := ⟨0, ![]⟩
abbrev S8x33832x64 : Shape := ⟨3, ![8, 33832, 64]⟩
abbrev S8x33832x1x64 : Shape := ⟨4, ![8, 33832, 1, 64]⟩
abbrev S8x65536x8 : Shape := ⟨3, ![8, 65536, 8]⟩
abbrev S8x65536x64 : Shape := ⟨3, ![8, 65536, 64]⟩
abbrev S1x1x1024 : Shape := ⟨3, ![1, 1, 1024]⟩
abbrev S1x1024x8 : Shape := ⟨3, ![1, 1024, 8]⟩
abbrev S1x33832x1x64 : Shape := ⟨4, ![1, 33832, 1, 64]⟩
abbrev S1x1024x64 : Shape := ⟨3, ![1, 1024, 64]⟩
abbrev S8192x1x64 : Shape := ⟨3, ![8192, 1, 64]⟩
abbrev S1x1x1 : Shape := ⟨3, ![1, 1, 1]⟩
abbrev S1x1x1x64 : Shape := ⟨4, ![1, 1, 1, 64]⟩
abbrev S64 : Shape := ⟨1, ![64]⟩
abbrev S1x1x64 : Shape := ⟨3, ![1, 1, 64]⟩
abbrev S1024x8 : Shape := ⟨2, ![1024, 8]⟩
abbrev S1024x64 : Shape := ⟨2, ![1024, 64]⟩
abbrev S1024x1x64 : Shape := ⟨3, ![1024, 1, 64]⟩
abbrev S1024x1 : Shape := ⟨2, ![1024, 1]⟩

abbrev nBuf : Space → Nat
  | .hbm => 9
  | .vmem => 9
  | .smem => 1
  | _ => 0

abbrev bufTy : (tb : Table) → Fin (tcTables nBuf tb) → BufTy
  | .hbm, ⟨0, _⟩ => ⟨S8x1x65536, .i32⟩
  | .hbm, ⟨1, _⟩ => ⟨S8x8x65536, .f32⟩
  | .hbm, ⟨2, _⟩ => ⟨S8x32768x64, .f32⟩
  | .hbm, ⟨3, _⟩ => ⟨S_, .i32⟩
  | .hbm, ⟨4, _⟩ => ⟨S_, .f32⟩
  | .hbm, ⟨5, _⟩ => ⟨S8x33832x64, .f32⟩
  | .hbm, ⟨6, _⟩ => ⟨S8x33832x1x64, .f32⟩
  | .hbm, ⟨7, _⟩ => ⟨S8x65536x8, .f32⟩
  | .hbm, ⟨8, _⟩ => ⟨S8x65536x64, .f32⟩
  | .local _ .vmem, ⟨0, _⟩ => ⟨S1x1x1024, .i32⟩
  | .local _ .vmem, ⟨1, _⟩ => ⟨S1x1x1024, .i32⟩
  | .local _ .vmem, ⟨2, _⟩ => ⟨S1x1024x8, .f32⟩
  | .local _ .vmem, ⟨3, _⟩ => ⟨S1x1024x8, .f32⟩
  | .local _ .vmem, ⟨4, _⟩ => ⟨S1x33832x1x64, .f32⟩
  | .local _ .vmem, ⟨5, _⟩ => ⟨S1x33832x1x64, .f32⟩
  | .local _ .vmem, ⟨6, _⟩ => ⟨S1x1024x64, .f32⟩
  | .local _ .vmem, ⟨7, _⟩ => ⟨S1x1024x64, .f32⟩
  | .local _ .vmem, ⟨8, _⟩ => ⟨S8192x1x64, .f32⟩
  | .local _ .smem, ⟨0, _⟩ => ⟨S1x1x1024, .i32⟩
  | _, _ => ⟨S8x1x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 64], ![false, false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_24 : Index := 0#32
  let c0_25 : Index := 0#32
  let c0_i32 : BitVec 32 := 0#32
  let c1_i32 : BitVec 32 := 1#32
  let arg9 : BitVec 32 := Scf.iv c0_i32 c1_i32 k0_t1
  let c4_i32 : BitVec 32 := 4#32
  let v55 : BitVec 32 := Scalar.muli arg9 c4_i32
  let c0_i32_23 : BitVec 32 := 0#32
  let v56 : BitVec 32 := Scalar.addi v55 c0_i32_23
  let v57 : Index := Scalar.indexCast v56
  ![0, 0, v57.toNat]
def k0_off2 (v58 : BitVec 32) (c0_i32_26 : BitVec 32) : Fin 4 → Nat :=
  let c0_27 : Index := 0#32
  let v59 : BitVec 32 := Scalar.addi v58 c0_i32_26
  let v60 : Index := Scalar.indexCast v59
  let c0_28 : Index := 0#32
  let c0_29 : Index := 0#32
  ![0, v60.toNat, 0, 0]
def k0_off2_at (r : Fin 8) : BitVec 32 :=
  if r.val < 4 then
    if r.val < 2 then
      if r.val < 1 then
        0#32
      else
        1#32
    else
      if r.val < 3 then
        32#32
      else
        33#32
  else
    if r.val < 6 then
      if r.val < 5 then
        1024#32
      else
        1025#32
    else
      if r.val < 7 then
        1056#32
      else
        1057#32

def k0_chk1 (v58 : BitVec 32) : Prop :=
  (∀ (r : Fin 8), ∀ a, (k0_off2 v58 (k0_off2_at r)) a + S1x1x1x64.size a ≤ S1x33832x1x64.size a)
theorem k0_off2_inb : ∀ (v58 : BitVec 32) (k0_hw1 : k0_chk1 v58), ∀ (r : Fin 8), ∀ a, (k0_off2 v58 (k0_off2_at r)) a + S1x1x1x64.size a ≤ S1x33832x1x64.size a := fun v58 k0_hw1 r => k0_hw1 r

def k0_off3 (k0_t1 : Fin k0_t1_loop.trips) (c0_i32_30 : BitVec 32) : Fin 3 → Nat :=
  let c0_i32 : BitVec 32 := 0#32
  let c1_i32 : BitVec 32 := 1#32
  let arg9 : BitVec 32 := Scf.iv c0_i32 c1_i32 k0_t1
  let c4_i32 : BitVec 32 := 4#32
  let v55 : BitVec 32 := Scalar.muli arg9 c4_i32
  let c0_i32_23 : BitVec 32 := 0#32
  let v56 : BitVec 32 := Scalar.addi v55 c0_i32_23
  let v63 : BitVec 32 := Scalar.addi c0_i32_30 v56
  let v64 : Index := Scalar.indexCast v63
  let c0_31 : Index := 0#32
  let c0_32 : Index := 0#32
  ![v64.toNat, 0, 0]
def k0_off4 (k0_t1 : Fin k0_t1_loop.trips) : Fin 3 → Nat :=
  let c0_72 : Index := 0#32
  let c0_73 : Index := 0#32
  let c0_i32 : BitVec 32 := 0#32
  let c1_i32 : BitVec 32 := 1#32
  let arg9 : BitVec 32 := Scf.iv c0_i32 c1_i32 k0_t1
  let c4_i32_70 : BitVec 32 := 4#32
  let v131 : BitVec 32 := Scalar.muli arg9 c4_i32_70
  let c1_i32_71 : BitVec 32 := 1#32
  let v132 : BitVec 32 := Scalar.addi v131 c1_i32_71
  let v133 : Index := Scalar.indexCast v132
  ![0, 0, v133.toNat]
def k0_off5 (v134 : BitVec 32) (c0_i32_74 : BitVec 32) : Fin 4 → Nat :=
  let c0_75 : Index := 0#32
  let v135 : BitVec 32 := Scalar.addi v134 c0_i32_74
  let v136 : Index := Scalar.indexCast v135
  let c0_76 : Index := 0#32
  let c0_77 : Index := 0#32
  ![0, v136.toNat, 0, 0]
def k0_off5_at (r : Fin 8) : BitVec 32 :=
  if r.val < 4 then
    if r.val < 2 then
      if r.val < 1 then
        0#32
      else
        1#32
    else
      if r.val < 3 then
        32#32
      else
        33#32
  else
    if r.val < 6 then
      if r.val < 5 then
        1024#32
      else
        1025#32
    else
      if r.val < 7 then
        1056#32
      else
        1057#32

def k0_chk2 (v134 : BitVec 32) : Prop :=
  (∀ (r : Fin 8), ∀ a, (k0_off5 v134 (k0_off5_at r)) a + S1x1x1x64.size a ≤ S1x33832x1x64.size a)
theorem k0_off5_inb : ∀ (v134 : BitVec 32) (k0_hw2 : k0_chk2 v134), ∀ (r : Fin 8), ∀ a, (k0_off5 v134 (k0_off5_at r)) a + S1x1x1x64.size a ≤ S1x33832x1x64.size a := fun v134 k0_hw2 r => k0_hw2 r

def k0_off6 (k0_t1 : Fin k0_t1_loop.trips) (c0_i32_78 : BitVec 32) : Fin 3 → Nat :=
  let c0_i32 : BitVec 32 := 0#32
  let c1_i32 : BitVec 32 := 1#32
  let arg9 : BitVec 32 := Scf.iv c0_i32 c1_i32 k0_t1
  let c4_i32_70 : BitVec 32 := 4#32
  let v131 : BitVec 32 := Scalar.muli arg9 c4_i32_70
  let c1_i32_71 : BitVec 32 := 1#32
  let v132 : BitVec 32 := Scalar.addi v131 c1_i32_71
  let v139 : BitVec 32 := Scalar.addi c0_i32_78 v132
  let v140 : Index := Scalar.indexCast v139
  let c0_79 : Index := 0#32
  let c0_80 : Index := 0#32
  ![v140.toNat, 0, 0]
def k0_off7 (k0_t1 : Fin k0_t1_loop.trips) : Fin 3 → Nat :=
  let c0_131 : Index := 0#32
  let c0_132 : Index := 0#32
  let c0_i32 : BitVec 32 := 0#32
  let c1_i32 : BitVec 32 := 1#32
  let arg9 : BitVec 32 := Scf.iv c0_i32 c1_i32 k0_t1
  let c4_i32_130 : BitVec 32 := 4#32
  let v207 : BitVec 32 := Scalar.muli arg9 c4_i32_130
  let c2_i32 : BitVec 32 := 2#32
  let v208 : BitVec 32 := Scalar.addi v207 c2_i32
  let v209 : Index := Scalar.indexCast v208
  ![0, 0, v209.toNat]
def k0_off8 (v210 : BitVec 32) (c0_i32_133 : BitVec 32) : Fin 4 → Nat :=
  let c0_134 : Index := 0#32
  let v211 : BitVec 32 := Scalar.addi v210 c0_i32_133
  let v212 : Index := Scalar.indexCast v211
  let c0_135 : Index := 0#32
  let c0_136 : Index := 0#32
  ![0, v212.toNat, 0, 0]
def k0_off8_at (r : Fin 8) : BitVec 32 :=
  if r.val < 4 then
    if r.val < 2 then
      if r.val < 1 then
        0#32
      else
        1#32
    else
      if r.val < 3 then
        32#32
      else
        33#32
  else
    if r.val < 6 then
      if r.val < 5 then
        1024#32
      else
        1025#32
    else
      if r.val < 7 then
        1056#32
      else
        1057#32

def k0_chk3 (v210 : BitVec 32) : Prop :=
  (∀ (r : Fin 8), ∀ a, (k0_off8 v210 (k0_off8_at r)) a + S1x1x1x64.size a ≤ S1x33832x1x64.size a)
theorem k0_off8_inb : ∀ (v210 : BitVec 32) (k0_hw3 : k0_chk3 v210), ∀ (r : Fin 8), ∀ a, (k0_off8 v210 (k0_off8_at r)) a + S1x1x1x64.size a ≤ S1x33832x1x64.size a := fun v210 k0_hw3 r => k0_hw3 r

def k0_off9 (k0_t1 : Fin k0_t1_loop.trips) (c0_i32_137 : BitVec 32) : Fin 3 → Nat :=
  let c0_i32 : BitVec 32 := 0#32
  let c1_i32 : BitVec 32 := 1#32
  let arg9 : BitVec 32 := Scf.iv c0_i32 c1_i32 k0_t1
  let c4_i32_130 : BitVec 32 := 4#32
  let v207 : BitVec 32 := Scalar.muli arg9 c4_i32_130
  let c2_i32 : BitVec 32 := 2#32
  let v208 : BitVec 32 := Scalar.addi v207 c2_i32
  let v215 : BitVec 32 := Scalar.addi c0_i32_137 v208
  let v216 : Index := Scalar.indexCast v215
  let c0_138 : Index := 0#32
  let c0_139 : Index := 0#32
  ![v216.toNat, 0, 0]
def k0_off10 (k0_t1 : Fin k0_t1_loop.trips) : Fin 3 → Nat :=
  let c0_190 : Index := 0#32
  let c0_191 : Index := 0#32
  let c0_i32 : BitVec 32 := 0#32
  let c1_i32 : BitVec 32 := 1#32
  let arg9 : BitVec 32 := Scf.iv c0_i32 c1_i32 k0_t1
  let c4_i32_189 : BitVec 32 := 4#32
  let v283 : BitVec 32 := Scalar.muli arg9 c4_i32_189
  let c3_i32 : BitVec 32 := 3#32
  let v284 : BitVec 32 := Scalar.addi v283 c3_i32
  let v285 : Index := Scalar.indexCast v284
  ![0, 0, v285.toNat]
def k0_off11 (v286 : BitVec 32) (c0_i32_192 : BitVec 32) : Fin 4 → Nat :=
  let c0_193 : Index := 0#32
  let v287 : BitVec 32 := Scalar.addi v286 c0_i32_192
  let v288 : Index := Scalar.indexCast v287
  let c0_194 : Index := 0#32
  let c0_195 : Index := 0#32
  ![0, v288.toNat, 0, 0]
def k0_off11_at (r : Fin 8) : BitVec 32 :=
  if r.val < 4 then
    if r.val < 2 then
      if r.val < 1 then
        0#32
      else
        1#32
    else
      if r.val < 3 then
        32#32
      else
        33#32
  else
    if r.val < 6 then
      if r.val < 5 then
        1024#32
      else
        1025#32
    else
      if r.val < 7 then
        1056#32
      else
        1057#32

def k0_chk4 (v286 : BitVec 32) : Prop :=
  (∀ (r : Fin 8), ∀ a, (k0_off11 v286 (k0_off11_at r)) a + S1x1x1x64.size a ≤ S1x33832x1x64.size a)
theorem k0_off11_inb : ∀ (v286 : BitVec 32) (k0_hw4 : k0_chk4 v286), ∀ (r : Fin 8), ∀ a, (k0_off11 v286 (k0_off11_at r)) a + S1x1x1x64.size a ≤ S1x33832x1x64.size a := fun v286 k0_hw4 r => k0_hw4 r

def k0_off12 (k0_t1 : Fin k0_t1_loop.trips) (c0_i32_196 : BitVec 32) : Fin 3 → Nat :=
  let c0_i32 : BitVec 32 := 0#32
  let c1_i32 : BitVec 32 := 1#32
  let arg9 : BitVec 32 := Scf.iv c0_i32 c1_i32 k0_t1
  let c4_i32_189 : BitVec 32 := 4#32
  let v283 : BitVec 32 := Scalar.muli arg9 c4_i32_189
  let c3_i32 : BitVec 32 := 3#32
  let v284 : BitVec 32 := Scalar.addi v283 c3_i32
  let v291 : BitVec 32 := Scalar.addi c0_i32_196 v284
  let v292 : Index := Scalar.indexCast v291
  let c0_197 : Index := 0#32
  let c0_198 : Index := 0#32
  ![v292.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x33832x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x1x65536 : Shape := ⟨3, ![8, 1, 65536]⟩
abbrev S8x8x65536 : Shape := ⟨3, ![8, 8, 65536]⟩
abbrev S8x32768x64 : Shape := ⟨3, ![8, 32768, 64]⟩
abbrev S1x8x1 : Shape := ⟨3, ![1, 8, 1]⟩
abbrev S_ : Shape := ⟨0, ![]⟩
abbrev S8x8x65536x1 : Shape := ⟨4, ![8, 8, 65536, 1]⟩
abbrev S8x8x65536x64 : Shape := ⟨4, ![8, 8, 65536, 64]⟩
abbrev S8x65536x64 : Shape := ⟨3, ![8, 65536, 64]⟩

abbrev nBuf : Space → Nat
  | .hbm => 61
  | .vmem => 0
  | .smem => 0
  | _ => 0

abbrev bufTy : (tb : Table) → Fin (tcTables nBuf tb) → BufTy
  | .hbm, ⟨0, _⟩ => ⟨S8x1x65536, .i32⟩
  | .hbm, ⟨1, _⟩ => ⟨S8x8x65536, .f32⟩
  | .hbm, ⟨2, _⟩ => ⟨S8x32768x64, .f32⟩
  | .hbm, ⟨3, _⟩ => ⟨S1x8x1, .i32⟩
  | .hbm, ⟨4, _⟩ => ⟨S_, .i32⟩
  | .hbm, ⟨5, _⟩ => ⟨S8x1x65536, .i32⟩
  | .hbm, ⟨6, _⟩ => ⟨S8x1x65536, .i32⟩
  | .hbm, ⟨7, _⟩ => ⟨S_, .i32⟩
  | .hbm, ⟨8, _⟩ => ⟨S1x8x1, .i32⟩
  | .hbm, ⟨9, _⟩ => ⟨S1x8x1, .i32⟩
  | .hbm, ⟨10, _⟩ => ⟨S8x8x65536, .i32⟩
  | .hbm, ⟨11, _⟩ => ⟨S8x8x65536, .i32⟩
  | .hbm, ⟨12, _⟩ => ⟨S8x8x65536, .i32⟩
  | .hbm, ⟨13, _⟩ => ⟨S_, .i32⟩
  | .hbm, ⟨14, _⟩ => ⟨S8x8x65536, .i32⟩
  | .hbm, ⟨15, _⟩ => ⟨S8x8x65536, .i32⟩
  | .hbm, ⟨16, _⟩ => ⟨S_, .i32⟩
  | .hbm, ⟨17, _⟩ => ⟨S8x1x65536, .i32⟩
  | .hbm, ⟨18, _⟩ => ⟨S8x1x65536, .i32⟩
  | .hbm, ⟨19, _⟩ => ⟨S_, .i32⟩
  | .hbm, ⟨20, _⟩ => ⟨S8x1x65536, .i32⟩
  | .hbm, ⟨21, _⟩ => ⟨S8x1x65536, .i32⟩
  | .hbm, ⟨22, _⟩ => ⟨S_, .i32⟩
  | .hbm, ⟨23, _⟩ => ⟨S1x8x1, .i32⟩
  | .hbm, ⟨24, _⟩ => ⟨S1x8x1, .i32⟩
  | .hbm, ⟨25, _⟩ => ⟨S_, .i32⟩
  | .hbm, ⟨26, _⟩ => ⟨S1x8x1, .i32⟩
  | .hbm, ⟨27, _⟩ => ⟨S1x8x1, .i32⟩
  | .hbm, ⟨28, _⟩ => ⟨S8x8x65536, .i32⟩
  | .hbm, ⟨29, _⟩ => ⟨S8x8x65536, .i32⟩
  | .hbm, ⟨30, _⟩ => ⟨S8x8x65536, .i32⟩
  | .hbm, ⟨31, _⟩ => ⟨S_, .i32⟩
  | .hbm, ⟨32, _⟩ => ⟨S8x8x65536, .i32⟩
  | .hbm, ⟨33, _⟩ => ⟨S8x8x65536, .i32⟩
  | .hbm, ⟨34, _⟩ => ⟨S_, .i32⟩
  | .hbm, ⟨35, _⟩ => ⟨S8x1x65536, .i32⟩
  | .hbm, ⟨36, _⟩ => ⟨S8x1x65536, .i32⟩
  | .hbm, ⟨37, _⟩ => ⟨S_, .i32⟩
  | .hbm, ⟨38, _⟩ => ⟨S1x8x1, .i32⟩
  | .hbm, ⟨39, _⟩ => ⟨S1x8x1, .i32⟩
  | .hbm, ⟨40, _⟩ => ⟨S8x8x65536, .i32⟩
  | .hbm, ⟨41, _⟩ => ⟨S8x8x65536, .i32⟩
  | .hbm, ⟨42, _⟩ => ⟨S8x8x65536, .i32⟩
  | .hbm, ⟨43, _⟩ => ⟨S_, .i32⟩
  | .hbm, ⟨44, _⟩ => ⟨S8x8x65536, .i32⟩
  | .hbm, ⟨45, _⟩ => ⟨S8x8x65536, .i32⟩
  | .hbm, ⟨46, _⟩ => ⟨S_, .i32⟩
  | .hbm, ⟨47, _⟩ => ⟨S8x8x65536, .i32⟩
  | .hbm, ⟨48, _⟩ => ⟨S8x8x65536, .i32⟩
  | .hbm, ⟨49, _⟩ => ⟨S8x8x65536, .i32⟩
  | .hbm, ⟨50, _⟩ => ⟨S_, .i32⟩
  | .hbm, ⟨51, _⟩ => ⟨S8x8x65536, .i32⟩
  | .hbm, ⟨52, _⟩ => ⟨S8x8x65536, .i32⟩
  | .hbm, ⟨53, _⟩ => ⟨S8x8x65536, .i32⟩
  | .hbm, ⟨54, _⟩ => ⟨S8x8x65536x1, .i32⟩
  | .hbm, ⟨55, _⟩ => ⟨S8x8x65536x64, .f32⟩
  | .hbm, ⟨56, _⟩ => ⟨S8x8x65536x1, .f32⟩
  | .hbm, ⟨57, _⟩ => ⟨S8x8x65536x64, .f32⟩
  | .hbm, ⟨58, _⟩ => ⟨S8x8x65536x64, .f32⟩
  | .hbm, ⟨59, _⟩ => ⟨S_, .f32⟩
  | .hbm, ⟨60, _⟩ => ⟨S8x65536x64, .f32⟩
  | _, _ => ⟨S8x1x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_c_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_9 : Ref sig .tc := ⟨.hbm, 43, rfl⟩
abbrev main_v30 : Ref sig .tc := ⟨.hbm, 44, rfl⟩
abbrev main_v31 : Ref sig .tc := ⟨.hbm, 45, rfl⟩
abbrev main_c_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel3.lean ====
abbrev S8x3x65536 : Shape := ⟨3, ![8, 3, 65536]⟩
abbrev S8x1x65536 : Shape := ⟨3, ![8, 1, 65536]⟩
abbrev S8x8x65536 : Shape := ⟨3, ![8, 8, 65536]⟩
abbrev S1x3x65536 : Shape := ⟨3, ![1, 3, 65536]⟩
abbrev S1x1x65536 : Shape := ⟨3, ![1, 1, 65536]⟩
abbrev S1x8x65536 : Shape := ⟨3, ![1, 8, 65536]⟩
abbrev S3x65536 : Shape := ⟨2, ![3, 65536]⟩
abbrev S3 : Shape := ⟨1, ![3]⟩
abbrev S3x1 : Shape := ⟨2, ![3, 1]⟩
abbrev S65536 : Shape := ⟨1, ![65536]⟩
abbrev S1x65536 : Shape := ⟨2, ![1, 65536]⟩
abbrev S1 : Shape := ⟨1, ![1]⟩
abbrev S1x1x1 : Shape := ⟨3, ![1, 1, 1]⟩
abbrev S8x65536 : Shape := ⟨2, ![8, 65536]⟩

abbrev nBuf : Space → Nat
  | .hbm => 4
  | .vmem => 8
  | .smem => 0
  | _ => 0

abbrev bufTy : (tb : Table) → Fin (tcTables nBuf tb) → BufTy
  | .hbm, ⟨0, _⟩ => ⟨S8x3x65536, .f32⟩
  | .hbm, ⟨1, _⟩ => ⟨S8x1x65536, .i32⟩
  | .hbm, ⟨2, _⟩ => ⟨S8x1x65536, .i32⟩
  | .hbm, ⟨3, _⟩ => ⟨S8x8x65536, .f32⟩
  | .local _ .vmem, ⟨0, _⟩ => ⟨S1x3x65536, .f32⟩
  | .local _ .vmem, ⟨1, _⟩ => ⟨S1x3x65536, .f32⟩
  | .local _ .vmem, ⟨2, _⟩ => ⟨S1x1x65536, .i32⟩
  | .local _ .vmem, ⟨3, _⟩ => ⟨S1x1x65536, .i32⟩
  | .local _ .vmem, ⟨4, _⟩ => ⟨S1x1x65536, .i32⟩
  | .local _ .vmem, ⟨5, _⟩ => ⟨S1x1x65536, .i32⟩
  | .local _ .vmem, ⟨6, _⟩ => ⟨S1x8x65536, .f32⟩
  | .local _ .vmem, ⟨7, _⟩ => ⟨S1x8x65536, .f32⟩
  | _, _ => ⟨S8x3x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x65536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x3x65536 : Shape := ⟨3, ![8, 3, 65536]⟩
abbrev S_ : Shape := ⟨0, ![]⟩
abbrev S8x3 : Shape := ⟨2, ![8, 3]⟩
abbrev S8x3x1 : Shape := ⟨3, ![8, 3, 1]⟩
abbrev S8x65536 : Shape := ⟨2, ![8, 65536]⟩
abbrev S8 : Shape := ⟨1, ![8]⟩
abbrev S8x1x1 : Shape := ⟨3, ![8, 1, 1]⟩
abbrev S8x1x65536 : Shape := ⟨3, ![8, 1, 65536]⟩
abbrev S8x8x65536 : Shape := ⟨3, ![8, 8, 65536]⟩

abbrev nBuf : Space → Nat
  | .hbm => 138
  | .vmem => 0
  | .smem => 0
  | _ => 0

abbrev hbmTy0_0 (i : Nat) : BufTy := match i % 128 with
  | 0 => ⟨S8x3x65536, .f32⟩
  | 1 => ⟨S_, .f32⟩
  | 2 => ⟨S8x3, .f32⟩
  | 3 => ⟨S8x3x1, .f32⟩
  | 4 => ⟨S_, .f32⟩
  | 5 => ⟨S8x3x1, .f32⟩
  | 6 => ⟨S8x3x1, .f32⟩
  | 7 => ⟨S8x3x65536, .f32⟩
  | 8 => ⟨S8x3x65536, .f32⟩
  | 9 => ⟨S8x3x65536, .f32⟩
  | 10 => ⟨S_, .f32⟩
  | 11 => ⟨S8x65536, .f32⟩
  | 12 => ⟨S8x65536, .f32⟩
  | 13 => ⟨S_, .f32⟩
  | 14 => ⟨S8, .f32⟩
  | 15 => ⟨S8x1x1, .f32⟩
  | 16 => ⟨S_, .f32⟩
  | 17 => ⟨S8x1x1, .f32⟩
  | 18 => ⟨S8x1x1, .f32⟩
  | 19 => ⟨S8x3x65536, .f32⟩
  | 20 => ⟨S8x3x65536, .f32⟩
  | 21 => ⟨S_, .f32⟩
  | 22 => ⟨S8x3x65536, .f32⟩
  | 23 => ⟨S8x3x65536, .f32⟩
  | 24 => ⟨S_, .f32⟩
  | 25 => ⟨S8x3x65536, .f32⟩
  | 26 => ⟨S8x3x65536, .f32⟩
  | 27 => ⟨S_, .f32⟩
  | 28 => ⟨S_, .i32⟩
  | 29 => ⟨S_, .f32⟩
  | 30 => ⟨S8x3x65536, .f32⟩
  | 31 => ⟨S8x3x65536, .f32⟩
  | 32 => ⟨S_, .f32⟩
  | 33 => ⟨S8x3x65536, .f32⟩
  | 34 => ⟨S8x3x65536, .f32⟩
  | 35 => ⟨S8x3x65536, .f32⟩
  | 36 => ⟨S8x3x65536, .i32⟩
  | 37 => ⟨S8x3x65536, .f32⟩
  | 38 => ⟨S8x3x65536, .i32⟩
  | 39 => ⟨S8x3x65536, .f32⟩
  | 40 => ⟨S8x3x65536, .f32⟩
  | 41 => ⟨S8x1x65536, .f32⟩
  | 42 => ⟨S8x65536, .f32⟩
  | 43 => ⟨S8x1x65536, .f32⟩
  | 44 => ⟨S8x65536, .f32⟩
  | 45 => ⟨S8x1x65536, .f32⟩
  | 46 => ⟨S8x65536, .f32⟩
  | 47 => ⟨S_, .f32⟩
  | 48 => ⟨S8x65536, .f32⟩
  | 49 => ⟨S8x65536, .f32⟩
  | 50 => ⟨S_, .f32⟩
  | 51 => ⟨S8x65536, .f32⟩
  | 52 => ⟨S8x65536, .f32⟩
  | 53 => ⟨S8x65536, .f32⟩
  | 54 => ⟨S_, .f32⟩
  | 55 => ⟨S8x65536, .f32⟩
  | 56 => ⟨S8x65536, .f32⟩
  | 57 => ⟨S8x65536, .f32⟩
  | 58 => ⟨S_, .f32⟩
  | 59 => ⟨S8x65536, .f32⟩
  | 60 => ⟨S8x65536, .f32⟩
  | 61 => ⟨S_, .f32⟩
  | 62 => ⟨S8x65536, .f32⟩
  | 63 => ⟨S8x65536, .f32⟩
  | 64 => ⟨S8x65536, .f32⟩
  | 65 => ⟨S8x65536, .f32⟩
  | 66 => ⟨S_, .f32⟩
  | 67 => ⟨S8x65536, .f32⟩
  | 68 => ⟨S8x65536, .f32⟩
  | 69 => ⟨S8x65536, .f32⟩
  | 70 => ⟨S_, .f32⟩
  | 71 => ⟨S8x65536, .f32⟩
  | 72 => ⟨S8x65536, .f32⟩
  | 73 => ⟨S8x65536, .f32⟩
  | 74 => ⟨S_, .f32⟩
  | 75 => ⟨S8x65536, .f32⟩
  | 76 => ⟨S8x65536, .f32⟩
  | 77 => ⟨S8x65536, .f32⟩
  | 78 => ⟨S8x65536, .f32⟩
  | 79 => ⟨S_, .f32⟩
  | 80 => ⟨S8x65536, .f32⟩
  | 81 => ⟨S8x65536, .f32⟩
  | 82 => ⟨S8x65536, .f32⟩
  | 83 => ⟨S_, .f32⟩
  | 84 => ⟨S8x65536, .f32⟩
  | 85 => ⟨S8x65536, .f32⟩
  | 86 => ⟨S8x65536, .f32⟩
  | 87 => ⟨S_, .f32⟩
  | 88 => ⟨S8x65536, .f32⟩
  | 89 => ⟨S8x65536, .f32⟩
  | 90 => ⟨S8x65536, .f32⟩
  | 91 => ⟨S8x65536, .f32⟩
  | 92 => ⟨S8x65536, .f32⟩
  | 93 => ⟨S_, .f32⟩
  | 94 => ⟨S8x65536, .f32⟩
  | 95 => ⟨S8x65536, .f32⟩
  | 96 => ⟨S8x65536, .f32⟩
  | 97 => ⟨S8x65536, .f32⟩
  | 98 => ⟨S8x65536, .f32⟩
  | 99 => ⟨S8x1x65536, .f32⟩
  | 100 => ⟨S8x1x65536, .f32⟩
  | 101 => ⟨S8x1x65536, .f32⟩
  | 102 => ⟨S8x1x65536, .f32⟩
  | 103 => ⟨S8x1x65536, .f32⟩
  | 104 => ⟨S8x1x65536, .f32⟩
  | 105 => ⟨S8x1x65536, .f32⟩
  | 106 => ⟨S8x1x65536, .f32⟩
  | 107 => ⟨S8x8x65536, .f32⟩
  | 108 => ⟨S8x1x65536, .i32⟩
  | 109 => ⟨S8x65536, .i32⟩
  | 110 => ⟨S_, .i32⟩
  | 111 => ⟨S8x65536, .i32⟩
  | 112 => ⟨S8x65536, .i32⟩
  | 113 => ⟨S8x1x65536, .i32⟩
  | 114 => ⟨S8x65536, .i32⟩
  | 115 => ⟨S8x65536, .i32⟩
  | 116 => ⟨S_, .i32⟩
  | 117 => ⟨S8x65536, .i32⟩
  | 118 => ⟨S8x65536, .i32⟩
  | 119 => ⟨S8x1x65536, .i32⟩
  | 120 => ⟨S8x65536, .i32⟩
  | 121 => ⟨S8x65536, .i32⟩
  | 122 => ⟨S8x1x65536, .i32⟩
  | 123 => ⟨S8x65536, .i32⟩
  | 124 => ⟨S_, .i32⟩
  | 125 => ⟨S8x65536, .i32⟩
  | 126 => ⟨S8x65536, .i32⟩
  | 127 => ⟨S8x1x65536, .i32⟩
  | _ => ⟨S8x3x65536, .f32⟩

abbrev hbmTy0_1 (i : Nat) : BufTy := match i % 128 with
  | 0 => ⟨S8x65536, .i32⟩
  | 1 => ⟨S8x65536, .i32⟩
  | 2 => ⟨S_, .i32⟩
  | 3 => ⟨S8x65536, .i32⟩
  | 4 => ⟨S8x65536, .i32⟩
  | 5 => ⟨S8x1x65536, .i32⟩
  | 6 => ⟨S8x65536, .i32⟩
  | 7 => ⟨S8x65536, .i32⟩
  | 8 => ⟨S8x1x65536, .i32⟩
  | 9 => ⟨S8x1x65536, .i32⟩
  | _ => ⟨S8x3x65536, .f32⟩

abbrev hbmTy (i : Nat) : BufTy := match i / 128 with
  | 0 => hbmTy0_0 i
  | 1 => hbmTy0_1 i
  | _ => ⟨S8x3x65536, .f32⟩

abbrev bufTy : (tb : Table) → Fin (tcTables nBuf tb) → BufTy
  | .hbm, ⟨i, _⟩ => hbmTy i
  | _, _ => ⟨S8x3x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_c : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_20 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_21 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.RunRead
public import Idealize.ShloMosaic.Lib.Pointwise

/-!
# The reference as a line of host operations

The program in twenty-nine stretches: the padding, one stretch per tap, and the batch normalisation
with LeakyReLU.
-/

@[expose] public section

noncomputable section

namespace Cert.ReferenceIdeal.Conv

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ reshape main_arg0 main_v0 (rfl : (.f32 : EltTy) = .f32) shapeCasts_S8x32768x64_S8x32x32x32x64,
    nullary main_c (constantI S_ 32 0#32),
    TRef.unary (TRef.of (T := ⟨S_, .i32⟩) main_c) (TRef.of (T := ⟨S_, .f32⟩) main_call0_v0) (sitofp .f32),
    TRef.binary (TRef.of (T := ⟨S8x32x32x32x64, .f32⟩) main_v0) (TRef.of (T := ⟨S_, .f32⟩) main_call0_v0) (TRef.of (T := ⟨S8x34x34x34x64, .f32⟩) main_v1) (fun x v => pad S8x34x34x34x64 ![0, 1, 1, 1, 0] ![0, 1, 1, 1, 0] ![0, 0, 0, 0, 0] x v pads_S8x32x32x32x64_S8x34x34x34x64_000_110_110_110_000 h_S_),
    nullary main_cst (constant S_ .f32 0x00000000#32),
    unary main_cst main_v2 (broadcastInDim S8x32x32x32x64 ![] bcast_S_S8x32x32x32x64 : (⟨S_, .f32⟩ : BufTy).Contents (Elt F) → (⟨S8x32x32x32x64, .f32⟩ : BufTy).Contents (Elt F)) ]

theorem ops0_sub : (ops0 : List (HloOp τ sig (Elt F))).Forall fun op => op.bufs ⊆ tcRefs τ sig :=
  ⟨reshape_bufs_sub .., nullary_bufs_sub .., unary_bufs_sub .., binary_bufs_sub .., nullary_bufs_sub .., unary_bufs_sub ..⟩

abbrev ops1 : List (HloOp τ sig (Elt F)) :=
  [ unary main_v1 main_v3 ((extractStridedSlice S8x32x32x32x64 ![0, 0, 0, 0, 0] · slices_S8x34x34x34x64_S8x32x32x32x64_0_0_0_0_0) : (⟨S8x34x34x34x64, .f32⟩ : BufTy).Contents (Elt F) → (⟨S8x32x32x32x64, .f32⟩ : BufTy).Contents (Elt F)),
    unary main_arg1 main_v4 ((extractStridedSlice S64x64x1x1x1 ![0, 0, 0, 0, 0] · slices_S64x64x3x3x3_S64x64x1x1x1_0_0_0_0_0) : (⟨S64x64x3x3x3, .f32⟩ : BufTy).Contents (Elt F) → (⟨S64x64x1x1x1, .f32⟩ : BufTy).Contents (Elt F)),
    reshape main_v4 main_v5 (rfl : (.f32 : EltTy) = .f32) shapeCasts_S64x64x1x1x1_S64x64,
    binary main_v3 main_v5 main_v6 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v2 main_v6 main_v7 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops1_sub : (ops1 : List (HloOp τ sig (Elt F))).Forall fun op => op.bufs ⊆ tcRefs τ sig :=
  ⟨unary_bufs_sub .., unary_bufs_sub .., reshape_bufs_sub .., binary_bufs_sub .., binary_bufs_sub ..⟩

abbrev ops2 : List (HloOp τ sig (Elt F)) :=
  [ unary main_v1 main_v8 ((extractStridedSlice S8x32x32x32x64 ![0, 0, 0, 1, 0] · slices_S8x34x34x34x64_S8x32x32x32x64_0_0_0_1_0) : (⟨S8x34x34x34x64, .f32⟩ : BufTy).Contents (Elt F) → (⟨S8x32x32x32x64, .f32⟩ : BufTy).Contents (Elt F)),
    unary main_arg1 main_v9 ((extractStridedSlice S64x64x1x1x1 ![0, 0, 0, 0, 1] · slices_S64x64x3x3x3_S64x64x1x1x1_0_0_0_0_1) : (⟨S64x64x3x3x3, .f32⟩ : BufTy).Contents (Elt F) → (⟨S64x64x1x1x1, .f32⟩ : BufTy).Contents (Elt F)),
    reshape main_v9 main_v10 (rfl : (.f32 : EltTy) = .f32) shapeCasts_S64x64x1x1x1_S64x64,
    binary main_v8 main_v10 main_v11 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v7 main_v11 main_v12 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops2_sub : (ops2 : List (HloOp τ sig (Elt F))).Forall fun op => op.bufs ⊆ tcRefs τ sig :=
  ⟨unary_bufs_sub .., unary_bufs_sub .., reshape_bufs_sub .., binary_bufs_sub .., binary_bufs_sub ..⟩

abbrev ops3 : List (HloOp τ sig (Elt F)) :=
  [ unary main_v1 main_v13 ((extractStridedSlice S8x32x32x32x64 ![0, 0, 0, 2, 0] · slices_S8x34x34x34x64_S8x32x32x32x64_0_0_0_2_0) : (⟨S8x34x34x34x64, .f32⟩ : BufTy).Contents (Elt F) → (⟨S8x32x32x32x64, .f32⟩ : BufTy).Contents (Elt F)),
    unary main_arg1 main_v14 ((extractStridedSlice S64x64x1x1x1 ![0, 0, 0, 0, 2] · slices_S64x64x3x3x3_S64x64x1x1x1_0_0_0_0_2) : (⟨S64x64x3x3x3, .f32⟩ : BufTy).Contents (Elt F) → (⟨S64x64x1x1x1, .f32⟩ : BufTy).Contents (Elt F)),
    reshape main_v14 main_v15 (rfl : (.f32 : EltTy) = .f32) shapeCasts_S64x64x1x1x1_S64x64,
    binary main_v13 main_v15 main_v16 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v12 main_v16 main_v17 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops3_sub : (ops3 : List (HloOp τ sig (Elt F))).Forall fun op => op.bufs ⊆ tcRefs τ sig :=
  ⟨unary_bufs_sub .., unary_bufs_sub .., reshape_bufs_sub .., binary_bufs_sub .., binary_bufs_sub ..⟩

abbrev ops4 : List (HloOp τ sig (Elt F)) :=
  [ unary main_v1 main_v18 ((extractStridedSlice S8x32x32x32x64 ![0, 0, 1, 0, 0] · slices_S8x34x34x34x64_S8x32x32x32x64_0_0_1_0_0) : (⟨S8x34x34x34x64, .f32⟩ : BufTy).Contents (Elt F) → (⟨S8x32x32x32x64, .f32⟩ : BufTy).Contents (Elt F)),
    unary main_arg1 main_v19 ((extractStridedSlice S64x64x1x1x1 ![0, 0, 0, 1, 0] · slices_S64x64x3x3x3_S64x64x1x1x1_0_0_0_1_0) : (⟨S64x64x3x3x3, .f32⟩ : BufTy).Contents (Elt F) → (⟨S64x64x1x1x1, .f32⟩ : BufTy).Contents (Elt F)),
    reshape main_v19 main_v20 (rfl : (.f32 : EltTy) = .f32) shapeCasts_S64x64x1x1x1_S64x64,
    binary main_v18 main_v20 main_v21 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v17 main_v21 main_v22 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops4_sub : (ops4 : List (HloOp τ sig (Elt F))).Forall fun op => op.bufs ⊆ tcRefs τ sig :=
  ⟨unary_bufs_sub .., unary_bufs_sub .., reshape_bufs_sub .., binary_bufs_sub .., binary_bufs_sub ..⟩

abbrev ops5 : List (HloOp τ sig (Elt F)) :=
  [ unary main_v1 main_v23 ((extractStridedSlice S8x32x32x32x64 ![0, 0, 1, 1, 0] · slices_S8x34x34x34x64_S8x32x32x32x64_0_0_1_1_0) : (⟨S8x34x34x34x64, .f32⟩ : BufTy).Contents (Elt F) → (⟨S8x32x32x32x64, .f32⟩ : BufTy).Contents (Elt F)),
    unary main_arg1 main_v24 ((extractStridedSlice S64x64x1x1x1 ![0, 0, 0, 1, 1] · slices_S64x64x3x3x3_S64x64x1x1x1_0_0_0_1_1) : (⟨S64x64x3x3x3, .f32⟩ : BufTy).Contents (Elt F) → (⟨S64x64x1x1x1, .f32⟩ : BufTy).Contents (Elt F)),
    reshape main_v24 main_v25 (rfl : (.f32 : EltTy) = .f32) shapeCasts_S64x64x1x1x1_S64x64,
    binary main_v23 main_v25 main_v26 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v22 main_v26 main_v27 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops5_sub : (ops5 : List (HloOp τ sig (Elt F))).Forall fun op => op.bufs ⊆ tcRefs τ sig :=
  ⟨unary_bufs_sub .., unary_bufs_sub .., reshape_bufs_sub .., binary_bufs_sub .., binary_bufs_sub ..⟩

abbrev ops6 : List (HloOp τ sig (Elt F)) :=
  [ unary main_v1 main_v28 ((extractStridedSlice S8x32x32x32x64 ![0, 0, 1, 2, 0] · slices_S8x34x34x34x64_S8x32x32x32x64_0_0_1_2_0) : (⟨S8x34x34x34x64, .f32⟩ : BufTy).Contents (Elt F) → (⟨S8x32x32x32x64, .f32⟩ : BufTy).Contents (Elt F)),
    unary main_arg1 main_v29 ((extractStridedSlice S64x64x1x1x1 ![0, 0, 0, 1, 2] · slices_S64x64x3x3x3_S64x64x1x1x1_0_0_0_1_2) : (⟨S64x64x3x3x3, .f32⟩ : BufTy).Contents (Elt F) → (⟨S64x64x1x1x1, .f32⟩ : BufTy).Contents (Elt F)),
    reshape main_v29 main_v30 (rfl : (.f32 : EltTy) = .f32) shapeCasts_S64x64x1x1x1_S64x64,
    binary main_v28 main_v30 main_v31 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v27 main_v31 main_v32 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops6_sub : (ops6 : List (HloOp τ sig (Elt F))).Forall fun op => op.bufs ⊆ tcRefs τ sig :=
  ⟨unary_bufs_sub .., unary_bufs_sub .., reshape_bufs_sub .., binary_bufs_sub .., binary_bufs_sub ..⟩

abbrev ops7 : List (HloOp τ sig (Elt F)) :=
  [ unary main_v1 main_v33 ((extractStridedSlice S8x32x32x32x64 ![0, 0, 2, 0, 0] · slices_S8x34x34x34x64_S8x32x32x32x64_0_0_2_0_0) : (⟨S8x34x34x34x64, .f32⟩ : BufTy).Contents (Elt F) → (⟨S8x32x32x32x64, .f32⟩ : BufTy).Contents (Elt F)),
    unary main_arg1 main_v34 ((extractStridedSlice S64x64x1x1x1 ![0, 0, 0, 2, 0] · slices_S64x64x3x3x3_S64x64x1x1x1_0_0_0_2_0) : (⟨S64x64x3x3x3, .f32⟩ : BufTy).Contents (Elt F) → (⟨S64x64x1x1x1, .f32⟩ : BufTy).Contents (Elt F)),
    reshape main_v34 main_v35 (rfl : (.f32 : EltTy) = .f32) shapeCasts_S64x64x1x1x1_S64x64,
    binary main_v33 main_v35 main_v36 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v32 main_v36 main_v37 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops7_sub : (ops7 : List (HloOp τ sig (Elt F))).Forall fun op => op.bufs ⊆ tcRefs τ sig :=
  ⟨unary_bufs_sub .., unary_bufs_sub .., reshape_bufs_sub .., binary_bufs_sub .., binary_bufs_sub ..⟩

abbrev ops8 : List (HloOp τ sig (Elt F)) :=
  [ unary main_v1 main_v38 ((extractStridedSlice S8x32x32x32x64 ![0, 0, 2, 1, 0] · slices_S8x34x34x34x64_S8x32x32x32x64_0_0_2_1_0) : (⟨S8x34x34x34x64, .f32⟩ : BufTy).Contents (Elt F) → (⟨S8x32x32x32x64, .f32⟩ : BufTy).Contents (Elt F)),
    unary main_arg1 main_v39 ((extractStridedSlice S64x64x1x1x1 ![0, 0, 0, 2, 1] · slices_S64x64x3x3x3_S64x64x1x1x1_0_0_0_2_1) : (⟨S64x64x3x3x3, .f32⟩ : BufTy).Contents (Elt F) → (⟨S64x64x1x1x1, .f32⟩ : BufTy).Contents (Elt F)),
    reshape main_v39 main_v40 (rfl : (.f32 : EltTy) = .f32) shapeCasts_S64x64x1x1x1_S64x64,
    binary main_v38 main_v40 main_v41 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v37 main_v41 main_v42 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops8_sub : (ops8 : List (HloOp τ sig (Elt F))).Forall fun op => op.bufs ⊆ tcRefs τ sig :=
  ⟨unary_bufs_sub .., unary_bufs_sub .., reshape_bufs_sub .., binary_bufs_sub .., binary_bufs_sub ..⟩

abbrev ops9 : List (HloOp τ sig (Elt F)) :=
  [ unary main_v1 main_v43 ((extractStridedSlice S8x32x32x32x64 ![0, 0, 2, 2, 0] · slices_S8x34x34x34x64_S8x32x32x32x64_0_0_2_2_0) : (⟨S8x34x34x34x64, .f32⟩ : BufTy).Contents (Elt F) → (⟨S8x32x32x32x64, .f32⟩ : BufTy).Contents (Elt F)),
    unary main_arg1 main_v44 ((extractStridedSlice S64x64x1x1x1 ![0, 0, 0, 2, 2] · slices_S64x64x3x3x3_S64x64x1x1x1_0_0_0_2_2) : (⟨S64x64x3x3x3, .f32⟩ : BufTy).Contents (Elt F) → (⟨S64x64x1x1x1, .f32⟩ : BufTy).Contents (Elt F)),
    reshape main_v44 main_v45 (rfl : (.f32 : EltTy) = .f32) shapeCasts_S64x64x1x1x1_S64x64,
    binary main_v43 main_v45 main_v46 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v42 main_v46 main_v47 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops9_sub : (ops9 : List (HloOp τ sig (Elt F))).Forall fun op => op.bufs ⊆ tcRefs τ sig :=
  ⟨unary_bufs_sub .., unary_bufs_sub .., reshape_bufs_sub .., binary_bufs_sub .., binary_bufs_sub ..⟩

abbrev ops10 : List (HloOp τ sig (Elt F)) :=
  [ unary main_v1 main_v48 ((extractStridedSlice S8x32x32x32x64 ![0, 1, 0, 0, 0] · slices_S8x34x34x34x64_S8x32x32x32x64_0_1_0_0_0) : (⟨S8x34x34x34x64, .f32⟩ : BufTy).Contents (Elt F) → (⟨S8x32x32x32x64, .f32⟩ : BufTy).Contents (Elt F)),
    unary main_arg1 main_v49 ((extractStridedSlice S64x64x1x1x1 ![0, 0, 1, 0, 0] · slices_S64x64x3x3x3_S64x64x1x1x1_0_0_1_0_0) : (⟨S64x64x3x3x3, .f32⟩ : BufTy).Contents (Elt F) → (⟨S64x64x1x1x1, .f32⟩ : BufTy).Contents (Elt F)),
    reshape main_v49 main_v50 (rfl : (.f32 : EltTy) = .f32) shapeCasts_S64x64x1x1x1_S64x64,
    binary main_v48 main_v50 main_v51 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v47 main_v51 main_v52 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops10_sub : (ops10 : List (HloOp τ sig (Elt F))).Forall fun op => op.bufs ⊆ tcRefs τ sig :=
  ⟨unary_bufs_sub .., unary_bufs_sub .., reshape_bufs_sub .., binary_bufs_sub .., binary_bufs_sub ..⟩

abbrev ops11 : List (HloOp τ sig (Elt F)) :=
  [ unary main_v1 main_v53 ((extractStridedSlice S8x32x32x32x64 ![0, 1, 0, 1, 0] · slices_S8x34x34x34x64_S8x32x32x32x64_0_1_0_1_0) : (⟨S8x34x34x34x64, .f32⟩ : BufTy).Contents (Elt F) → (⟨S8x32x32x32x64, .f32⟩ : BufTy).Contents (Elt F)),
    unary main_arg1 main_v54 ((extractStridedSlice S64x64x1x1x1 ![0, 0, 1, 0, 1] · slices_S64x64x3x3x3_S64x64x1x1x1_0_0_1_0_1) : (⟨S64x64x3x3x3, .f32⟩ : BufTy).Contents (Elt F) → (⟨S64x64x1x1x1, .f32⟩ : BufTy).Contents (Elt F)),
    reshape main_v54 main_v55 (rfl : (.f32 : EltTy) = .f32) shapeCasts_S64x64x1x1x1_S64x64,
    binary main_v53 main_v55 main_v56 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v52 main_v56 main_v57 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops11_sub : (ops11 : List (HloOp τ sig (Elt F))).Forall fun op => op.bufs ⊆ tcRefs τ sig :=
  ⟨unary_bufs_sub .., unary_bufs_sub .., reshape_bufs_sub .., binary_bufs_sub .., binary_bufs_sub ..⟩

abbrev ops12 : List (HloOp τ sig (Elt F)) :=
  [ unary main_v1 main_v58 ((extractStridedSlice S8x32x32x32x64 ![0, 1, 0, 2, 0] · slices_S8x34x34x34x64_S8x32x32x32x64_0_1_0_2_0) : (⟨S8x34x34x34x64, .f32⟩ : BufTy).Contents (Elt F) → (⟨S8x32x32x32x64, .f32⟩ : BufTy).Contents (Elt F)),
    unary main_arg1 main_v59 ((extractStridedSlice S64x64x1x1x1 ![0, 0, 1, 0, 2] · slices_S64x64x3x3x3_S64x64x1x1x1_0_0_1_0_2) : (⟨S64x64x3x3x3, .f32⟩ : BufTy).Contents (Elt F) → (⟨S64x64x1x1x1, .f32⟩ : BufTy).Contents (Elt F)),
    reshape main_v59 main_v60 (rfl : (.f32 : EltTy) = .f32) shapeCasts_S64x64x1x1x1_S64x64,
    binary main_v58 main_v60 main_v61 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v57 main_v61 main_v62 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops12_sub : (ops12 : List (HloOp τ sig (Elt F))).Forall fun op => op.bufs ⊆ tcRefs τ sig :=
  ⟨unary_bufs_sub .., unary_bufs_sub .., reshape_bufs_sub .., binary_bufs_sub .., binary_bufs_sub ..⟩

abbrev ops13 : List (HloOp τ sig (Elt F)) :=
  [ unary main_v1 main_v63 ((extractStridedSlice S8x32x32x32x64 ![0, 1, 1, 0, 0] · slices_S8x34x34x34x64_S8x32x32x32x64_0_1_1_0_0) : (⟨S8x34x34x34x64, .f32⟩ : BufTy).Contents (Elt F) → (⟨S8x32x32x32x64, .f32⟩ : BufTy).Contents (Elt F)),
    unary main_arg1 main_v64 ((extractStridedSlice S64x64x1x1x1 ![0, 0, 1, 1, 0] · slices_S64x64x3x3x3_S64x64x1x1x1_0_0_1_1_0) : (⟨S64x64x3x3x3, .f32⟩ : BufTy).Contents (Elt F) → (⟨S64x64x1x1x1, .f32⟩ : BufTy).Contents (Elt F)),
    reshape main_v64 main_v65 (rfl : (.f32 : EltTy) = .f32) shapeCasts_S64x64x1x1x1_S64x64,
    binary main_v63 main_v65 main_v66 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v62 main_v66 main_v67 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops13_sub : (ops13 : List (HloOp τ sig (Elt F))).Forall fun op => op.bufs ⊆ tcRefs τ sig :=
  ⟨unary_bufs_sub .., unary_bufs_sub .., reshape_bufs_sub .., binary_bufs_sub .., binary_bufs_sub ..⟩

abbrev ops14 : List (HloOp τ sig (Elt F)) :=
  [ unary main_v1 main_v68 ((extractStridedSlice S8x32x32x32x64 ![0, 1, 1, 1, 0] · slices_S8x34x34x34x64_S8x32x32x32x64_0_1_1_1_0) : (⟨S8x34x34x34x64, .f32⟩ : BufTy).Contents (Elt F) → (⟨S8x32x32x32x64, .f32⟩ : BufTy).Contents (Elt F)),
    unary main_arg1 main_v69 ((extractStridedSlice S64x64x1x1x1 ![0, 0, 1, 1, 1] · slices_S64x64x3x3x3_S64x64x1x1x1_0_0_1_1_1) : (⟨S64x64x3x3x3, .f32⟩ : BufTy).Contents (Elt F) → (⟨S64x64x1x1x1, .f32⟩ : BufTy).Contents (Elt F)),
    reshape main_v69 main_v70 (rfl : (.f32 : EltTy) = .f32) shapeCasts_S64x64x1x1x1_S64x64,
    binary main_v68 main_v70 main_v71 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v67 main_v71 main_v72 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops14_sub : (ops14 : List (HloOp τ sig (Elt F))).Forall fun op => op.bufs ⊆ tcRefs τ sig :=
  ⟨unary_bufs_sub .., unary_bufs_sub .., reshape_bufs_sub .., binary_bufs_sub .., binary_bufs_sub ..⟩

abbrev ops15 : List (HloOp τ sig (Elt F)) :=
  [ unary main_v1 main_v73 ((extractStridedSlice S8x32x32x32x64 ![0, 1, 1, 2, 0] · slices_S8x34x34x34x64_S8x32x32x32x64_0_1_1_2_0) : (⟨S8x34x34x34x64, .f32⟩ : BufTy).Contents (Elt F) → (⟨S8x32x32x32x64, .f32⟩ : BufTy).Contents (Elt F)),
    unary main_arg1 main_v74 ((extractStridedSlice S64x64x1x1x1 ![0, 0, 1, 1, 2] · slices_S64x64x3x3x3_S64x64x1x1x1_0_0_1_1_2) : (⟨S64x64x3x3x3, .f32⟩ : BufTy).Contents (Elt F) → (⟨S64x64x1x1x1, .f32⟩ : BufTy).Contents (Elt F)),
    reshape main_v74 main_v75 (rfl : (.f32 : EltTy) = .f32) shapeCasts_S64x64x1x1x1_S64x64,
    binary main_v73 main_v75 main_v76 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v72 main_v76 main_v77 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops15_sub : (ops15 : List (HloOp τ sig (Elt F))).Forall fun op => op.bufs ⊆ tcRefs τ sig :=
  ⟨unary_bufs_sub .., unary_bufs_sub .., reshape_bufs_sub .., binary_bufs_sub .., binary_bufs_sub ..⟩

abbrev ops16 : List (HloOp τ sig (Elt F)) :=
  [ unary main_v1 main_v78 ((extractStridedSlice S8x32x32x32x64 ![0, 1, 2, 0, 0] · slices_S8x34x34x34x64_S8x32x32x32x64_0_1_2_0_0) : (⟨S8x34x34x34x64, .f32⟩ : BufTy).Contents (Elt F) → (⟨S8x32x32x32x64, .f32⟩ : BufTy).Contents (Elt F)),
    unary main_arg1 main_v79 ((extractStridedSlice S64x64x1x1x1 ![0, 0, 1, 2, 0] · slices_S64x64x3x3x3_S64x64x1x1x1_0_0_1_2_0) : (⟨S64x64x3x3x3, .f32⟩ : BufTy).Contents (Elt F) → (⟨S64x64x1x1x1, .f32⟩ : BufTy).Contents (Elt F)),
    reshape main_v79 main_v80 (rfl : (.f32 : EltTy) = .f32) shapeCasts_S64x64x1x1x1_S64x64,
    binary main_v78 main_v80 main_v81 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v77 main_v81 main_v82 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops16_sub : (ops16 : List (HloOp τ sig (Elt F))).Forall fun op => op.bufs ⊆ tcRefs τ sig :=
  ⟨unary_bufs_sub .., unary_bufs_sub .., reshape_bufs_sub .., binary_bufs_sub .., binary_bufs_sub ..⟩

abbrev ops17 : List (HloOp τ sig (Elt F)) :=
  [ unary main_v1 main_v83 ((extractStridedSlice S8x32x32x32x64 ![0, 1, 2, 1, 0] · slices_S8x34x34x34x64_S8x32x32x32x64_0_1_2_1_0) : (⟨S8x34x34x34x64, .f32⟩ : BufTy).Contents (Elt F) → (⟨S8x32x32x32x64, .f32⟩ : BufTy).Contents (Elt F)),
    unary main_arg1 main_v84 ((extractStridedSlice S64x64x1x1x1 ![0, 0, 1, 2, 1] · slices_S64x64x3x3x3_S64x64x1x1x1_0_0_1_2_1) : (⟨S64x64x3x3x3, .f32⟩ : BufTy).Contents (Elt F) → (⟨S64x64x1x1x1, .f32⟩ : BufTy).Contents (Elt F)),
    reshape main_v84 main_v85 (rfl : (.f32 : EltTy) = .f32) shapeCasts_S64x64x1x1x1_S64x64,
    binary main_v83 main_v85 main_v86 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v82 main_v86 main_v87 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops17_sub : (ops17 : List (HloOp τ sig (Elt F))).Forall fun op => op.bufs ⊆ tcRefs τ sig :=
  ⟨unary_bufs_sub .., unary_bufs_sub .., reshape_bufs_sub .., binary_bufs_sub .., binary_bufs_sub ..⟩

abbrev ops18 : List (HloOp τ sig (Elt F)) :=
  [ unary main_v1 main_v88 ((extractStridedSlice S8x32x32x32x64 ![0, 1, 2, 2, 0] · slices_S8x34x34x34x64_S8x32x32x32x64_0_1_2_2_0) : (⟨S8x34x34x34x64, .f32⟩ : BufTy).Contents (Elt F) → (⟨S8x32x32x32x64, .f32⟩ : BufTy).Contents (Elt F)),
    unary main_arg1 main_v89 ((extractStridedSlice S64x64x1x1x1 ![0, 0, 1, 2, 2] · slices_S64x64x3x3x3_S64x64x1x1x1_0_0_1_2_2) : (⟨S64x64x3x3x3, .f32⟩ : BufTy).Contents (Elt F) → (⟨S64x64x1x1x1, .f32⟩ : BufTy).Contents (Elt F)),
    reshape main_v89 main_v90 (rfl : (.f32 : EltTy) = .f32) shapeCasts_S64x64x1x1x1_S64x64,
    binary main_v88 main_v90 main_v91 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v87 main_v91 main_v92 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops18_sub : (ops18 : List (HloOp τ sig (Elt F))).Forall fun op => op.bufs ⊆ tcRefs τ sig :=
  ⟨unary_bufs_sub .., unary_bufs_sub .., reshape_bufs_sub .., binary_bufs_sub .., binary_bufs_sub ..⟩

abbrev ops19 : List (HloOp τ sig (Elt F)) :=
  [ unary main_v1 main_v93 ((extractStridedSlice S8x32x32x32x64 ![0, 2, 0, 0, 0] · slices_S8x34x34x34x64_S8x32x32x32x64_0_2_0_0_0) : (⟨S8x34x34x34x64, .f32⟩ : BufTy).Contents (Elt F) → (⟨S8x32x32x32x64, .f32⟩ : BufTy).Contents (Elt F)),
    unary main_arg1 main_v94 ((extractStridedSlice S64x64x1x1x1 ![0, 0, 2, 0, 0] · slices_S64x64x3x3x3_S64x64x1x1x1_0_0_2_0_0) : (⟨S64x64x3x3x3, .f32⟩ : BufTy).Contents (Elt F) → (⟨S64x64x1x1x1, .f32⟩ : BufTy).Contents (Elt F)),
    reshape main_v94 main_v95 (rfl : (.f32 : EltTy) = .f32) shapeCasts_S64x64x1x1x1_S64x64,
    binary main_v93 main_v95 main_v96 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v92 main_v96 main_v97 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops19_sub : (ops19 : List (HloOp τ sig (Elt F))).Forall fun op => op.bufs ⊆ tcRefs τ sig :=
  ⟨unary_bufs_sub .., unary_bufs_sub .., reshape_bufs_sub .., binary_bufs_sub .., binary_bufs_sub ..⟩

abbrev ops20 : List (HloOp τ sig (Elt F)) :=
  [ unary main_v1 main_v98 ((extractStridedSlice S8x32x32x32x64 ![0, 2, 0, 1, 0] · slices_S8x34x34x34x64_S8x32x32x32x64_0_2_0_1_0) : (⟨S8x34x34x34x64, .f32⟩ : BufTy).Contents (Elt F) → (⟨S8x32x32x32x64, .f32⟩ : BufTy).Contents (Elt F)),
    unary main_arg1 main_v99 ((extractStridedSlice S64x64x1x1x1 ![0, 0, 2, 0, 1] · slices_S64x64x3x3x3_S64x64x1x1x1_0_0_2_0_1) : (⟨S64x64x3x3x3, .f32⟩ : BufTy).Contents (Elt F) → (⟨S64x64x1x1x1, .f32⟩ : BufTy).Contents (Elt F)),
    reshape main_v99 main_v100 (rfl : (.f32 : EltTy) = .f32) shapeCasts_S64x64x1x1x1_S64x64,
    binary main_v98 main_v100 main_v101 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v97 main_v101 main_v102 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops20_sub : (ops20 : List (HloOp τ sig (Elt F))).Forall fun op => op.bufs ⊆ tcRefs τ sig :=
  ⟨unary_bufs_sub .., unary_bufs_sub .., reshape_bufs_sub .., binary_bufs_sub .., binary_bufs_sub ..⟩

abbrev ops21 : List (HloOp τ sig (Elt F)) :=
  [ unary main_v1 main_v103 ((extractStridedSlice S8x32x32x32x64 ![0, 2, 0, 2, 0] · slices_S8x34x34x34x64_S8x32x32x32x64_0_2_0_2_0) : (⟨S8x34x34x34x64, .f32⟩ : BufTy).Contents (Elt F) → (⟨S8x32x32x32x64, .f32⟩ : BufTy).Contents (Elt F)),
    unary main_arg1 main_v104 ((extractStridedSlice S64x64x1x1x1 ![0, 0, 2, 0, 2] · slices_S64x64x3x3x3_S64x64x1x1x1_0_0_2_0_2) : (⟨S64x64x3x3x3, .f32⟩ : BufTy).Contents (Elt F) → (⟨S64x64x1x1x1, .f32⟩ : BufTy).Contents (Elt F)),
    reshape main_v104 main_v105 (rfl : (.f32 : EltTy) = .f32) shapeCasts_S64x64x1x1x1_S64x64,
    binary main_v103 main_v105 main_v106 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v102 main_v106 main_v107 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops21_sub : (ops21 : List (HloOp τ sig (Elt F))).Forall fun op => op.bufs ⊆ tcRefs τ sig :=
  ⟨unary_bufs_sub .., unary_bufs_sub .., reshape_bufs_sub .., binary_bufs_sub .., binary_bufs_sub ..⟩

abbrev ops22 : List (HloOp τ sig (Elt F)) :=
  [ unary main_v1 main_v108 ((extractStridedSlice S8x32x32x32x64 ![0, 2, 1, 0, 0] · slices_S8x34x34x34x64_S8x32x32x32x64_0_2_1_0_0) : (⟨S8x34x34x34x64, .f32⟩ : BufTy).Contents (Elt F) → (⟨S8x32x32x32x64, .f32⟩ : BufTy).Contents (Elt F)),
    unary main_arg1 main_v109 ((extractStridedSlice S64x64x1x1x1 ![0, 0, 2, 1, 0] · slices_S64x64x3x3x3_S64x64x1x1x1_0_0_2_1_0) : (⟨S64x64x3x3x3, .f32⟩ : BufTy).Contents (Elt F) → (⟨S64x64x1x1x1, .f32⟩ : BufTy).Contents (Elt F)),
    reshape main_v109 main_v110 (rfl : (.f32 : EltTy) = .f32) shapeCasts_S64x64x1x1x1_S64x64,
    binary main_v108 main_v110 main_v111 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v107 main_v111 main_v112 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops22_sub : (ops22 : List (HloOp τ sig (Elt F))).Forall fun op => op.bufs ⊆ tcRefs τ sig :=
  ⟨unary_bufs_sub .., unary_bufs_sub .., reshape_bufs_sub .., binary_bufs_sub .., binary_bufs_sub ..⟩

abbrev ops23 : List (HloOp τ sig (Elt F)) :=
  [ unary main_v1 main_v113 ((extractStridedSlice S8x32x32x32x64 ![0, 2, 1, 1, 0] · slices_S8x34x34x34x64_S8x32x32x32x64_0_2_1_1_0) : (⟨S8x34x34x34x64, .f32⟩ : BufTy).Contents (Elt F) → (⟨S8x32x32x32x64, .f32⟩ : BufTy).Contents (Elt F)),
    unary main_arg1 main_v114 ((extractStridedSlice S64x64x1x1x1 ![0, 0, 2, 1, 1] · slices_S64x64x3x3x3_S64x64x1x1x1_0_0_2_1_1) : (⟨S64x64x3x3x3, .f32⟩ : BufTy).Contents (Elt F) → (⟨S64x64x1x1x1, .f32⟩ : BufTy).Contents (Elt F)),
    reshape main_v114 main_v115 (rfl : (.f32 : EltTy) = .f32) shapeCasts_S64x64x1x1x1_S64x64,
    binary main_v113 main_v115 main_v116 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v112 main_v116 main_v117 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops23_sub : (ops23 : List (HloOp τ sig (Elt F))).Forall fun op => op.bufs ⊆ tcRefs τ sig :=
  ⟨unary_bufs_sub .., unary_bufs_sub .., reshape_bufs_sub .., binary_bufs_sub .., binary_bufs_sub ..⟩

abbrev ops24 : List (HloOp τ sig (Elt F)) :=
  [ unary main_v1 main_v118 ((extractStridedSlice S8x32x32x32x64 ![0, 2, 1, 2, 0] · slices_S8x34x34x34x64_S8x32x32x32x64_0_2_1_2_0) : (⟨S8x34x34x34x64, .f32⟩ : BufTy).Contents (Elt F) → (⟨S8x32x32x32x64, .f32⟩ : BufTy).Contents (Elt F)),
    unary main_arg1 main_v119 ((extractStridedSlice S64x64x1x1x1 ![0, 0, 2, 1, 2] · slices_S64x64x3x3x3_S64x64x1x1x1_0_0_2_1_2) : (⟨S64x64x3x3x3, .f32⟩ : BufTy).Contents (Elt F) → (⟨S64x64x1x1x1, .f32⟩ : BufTy).Contents (Elt F)),
    reshape main_v119 main_v120 (rfl : (.f32 : EltTy) = .f32) shapeCasts_S64x64x1x1x1_S64x64,
    binary main_v118 main_v120 main_v121 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v117 main_v121 main_v122 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops24_sub : (ops24 : List (HloOp τ sig (Elt F))).Forall fun op => op.bufs ⊆ tcRefs τ sig :=
  ⟨unary_bufs_sub .., unary_bufs_sub .., reshape_bufs_sub .., binary_bufs_sub .., binary_bufs_sub ..⟩

abbrev ops25 : List (HloOp τ sig (Elt F)) :=
  [ unary main_v1 main_v123 ((extractStridedSlice S8x32x32x32x64 ![0, 2, 2, 0, 0] · slices_S8x34x34x34x64_S8x32x32x32x64_0_2_2_0_0) : (⟨S8x34x34x34x64, .f32⟩ : BufTy).Contents (Elt F) → (⟨S8x32x32x32x64, .f32⟩ : BufTy).Contents (Elt F)),
    unary main_arg1 main_v124 ((extractStridedSlice S64x64x1x1x1 ![0, 0, 2, 2, 0] · slices_S64x64x3x3x3_S64x64x1x1x1_0_0_2_2_0) : (⟨S64x64x3x3x3, .f32⟩ : BufTy).Contents (Elt F) → (⟨S64x64x1x1x1, .f32⟩ : BufTy).Contents (Elt F)),
    reshape main_v124 main_v125 (rfl : (.f32 : EltTy) = .f32) shapeCasts_S64x64x1x1x1_S64x64,
    binary main_v123 main_v125 main_v126 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v122 main_v126 main_v127 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops25_sub : (ops25 : List (HloOp τ sig (Elt F))).Forall fun op => op.bufs ⊆ tcRefs τ sig :=
  ⟨unary_bufs_sub .., unary_bufs_sub .., reshape_bufs_sub .., binary_bufs_sub .., binary_bufs_sub ..⟩

abbrev ops26 : List (HloOp τ sig (Elt F)) :=
  [ unary main_v1 main_v128 ((extractStridedSlice S8x32x32x32x64 ![0, 2, 2, 1, 0] · slices_S8x34x34x34x64_S8x32x32x32x64_0_2_2_1_0) : (⟨S8x34x34x34x64, .f32⟩ : BufTy).Contents (Elt F) → (⟨S8x32x32x32x64, .f32⟩ : BufTy).Contents (Elt F)),
    unary main_arg1 main_v129 ((extractStridedSlice S64x64x1x1x1 ![0, 0, 2, 2, 1] · slices_S64x64x3x3x3_S64x64x1x1x1_0_0_2_2_1) : (⟨S64x64x3x3x3, .f32⟩ : BufTy).Contents (Elt F) → (⟨S64x64x1x1x1, .f32⟩ : BufTy).Contents (Elt F)),
    reshape main_v129 main_v130 (rfl : (.f32 : EltTy) = .f32) shapeCasts_S64x64x1x1x1_S64x64,
    binary main_v128 main_v130 main_v131 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v127 main_v131 main_v132 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops26_sub : (ops26 : List (HloOp τ sig (Elt F))).Forall fun op => op.bufs ⊆ tcRefs τ sig :=
  ⟨unary_bufs_sub .., unary_bufs_sub .., reshape_bufs_sub .., binary_bufs_sub .., binary_bufs_sub ..⟩

abbrev ops27 : List (HloOp τ sig (Elt F)) :=
  [ unary main_v1 main_v133 ((extractStridedSlice S8x32x32x32x64 ![0, 2, 2, 2, 0] · slices_S8x34x34x34x64_S8x32x32x32x64_0_2_2_2_0) : (⟨S8x34x34x34x64, .f32⟩ : BufTy).Contents (Elt F) → (⟨S8x32x32x32x64, .f32⟩ : BufTy).Contents (Elt F)),
    unary main_arg1 main_v134 ((extractStridedSlice S64x64x1x1x1 ![0, 0, 2, 2, 2] · slices_S64x64x3x3x3_S64x64x1x1x1_0_0_2_2_2) : (⟨S64x64x3x3x3, .f32⟩ : BufTy).Contents (Elt F) → (⟨S64x64x1x1x1, .f32⟩ : BufTy).Contents (Elt F)),
    reshape main_v134 main_v135 (rfl : (.f32 : EltTy) = .f32) shapeCasts_S64x64x1x1x1_S64x64,
    binary main_v133 main_v135 main_v136 ((fun l r => Host.dotGeneral dot_S8x32x32x32x64_S64x64_S8x32x32x32x64_4_1_0123_0_n_n none l r) : (⟨S8x32x32x32x64, .f32⟩ : BufTy).Contents (Elt F) → (⟨S64x64, .f32⟩ : BufTy).Contents (Elt F) → (⟨S8x32x32x32x64, .f32⟩ : BufTy).Contents (Elt F)),
    binary main_v132 main_v136 main_v137 (addf : (⟨S8x32x32x32x64, .f32⟩ : BufTy).Contents (Elt F) → (⟨S8x32x32x32x64, .f32⟩ : BufTy).Contents (Elt F) → (⟨S8x32x32x32x64, .f32⟩ : BufTy).Contents (Elt F)) ]

theorem ops27_sub : (ops27 : List (HloOp τ sig (Elt F))).Forall fun op => op.bufs ⊆ tcRefs τ sig :=
  ⟨unary_bufs_sub .., unary_bufs_sub .., reshape_bufs_sub .., binary_bufs_sub .., binary_bufs_sub ..⟩

abbrev ops28 : List (HloOp τ sig (Elt F)) :=
  [ unary main_arg2 main_v138 (broadcastInDim S1x1x1x1x64 ![4] bcast_S64_S1x1x1x1x64_4 : (⟨S64, .f32⟩ : BufTy).Contents (Elt F) → (⟨S1x1x1x1x64, .f32⟩ : BufTy).Contents (Elt F)),
    unary main_v138 main_v139 (broadcastInDim S8x32x32x32x64 ![0, 1, 2, 3, 4] bcast_S1x1x1x1x64_S8x32x32x32x64_0_1_2_3_4 : (⟨S1x1x1x1x64, .f32⟩ : BufTy).Contents (Elt F) → (⟨S8x32x32x32x64, .f32⟩ : BufTy).Contents (Elt F)),
    binary main_v137 main_v139 main_v140 (addf : (⟨S8x32x32x32x64, .f32⟩ : BufTy).Contents (Elt F) → (⟨S8x32x32x32x64, .f32⟩ : BufTy).Contents (Elt F) → (⟨S8x32x32x32x64, .f32⟩ : BufTy).Contents (Elt F)),
    nullary main_cst_0 (constant S_ .f32 0x38D1B717#32),
    unary main_cst_0 main_v141 (broadcastInDim S64 ![] bcast_S_S64 : (⟨S_, .f32⟩ : BufTy).Contents (Elt F) → (⟨S64, .f32⟩ : BufTy).Contents (Elt F)),
    binary main_arg6 main_v141 main_v142 (addf : (⟨S64, .f32⟩ : BufTy).Contents (Elt F) → (⟨S64, .f32⟩ : BufTy).Contents (Elt F) → (⟨S64, .f32⟩ : BufTy).Contents (Elt F)),
    unary main_v142 main_v143 (Host.sqrt : (⟨S64, .f32⟩ : BufTy).Contents (Elt F) → (⟨S64, .f32⟩ : BufTy).Contents (Elt F)),
    binary main_arg3 main_v143 main_v144 (Host.divf : (⟨S64, .f32⟩ : BufTy).Contents (Elt F) → (⟨S64, .f32⟩ : BufTy).Contents (Elt F) → (⟨S64, .f32⟩ : BufTy).Contents (Elt F)),
    unary main_arg5 main_v145 (broadcastInDim S1x1x1x1x64 ![4] bcast_S64_S1x1x1x1x64_4 : (⟨S64, .f32⟩ : BufTy).Contents (Elt F) → (⟨S1x1x1x1x64, .f32⟩ : BufTy).Contents (Elt F)),
    unary main_v145 main_v146 (broadcastInDim S8x32x32x32x64 ![0, 1, 2, 3, 4] bcast_S1x1x1x1x64_S8x32x32x32x64_0_1_2_3_4 : (⟨S1x1x1x1x64, .f32⟩ : BufTy).Contents (Elt F) → (⟨S8x32x32x32x64, .f32⟩ : BufTy).Contents (Elt F)),
    binary main_v140 main_v146 main_v147 (subf : (⟨S8x32x32x32x64, .f32⟩ : BufTy).Contents (Elt F) → (⟨S8x32x32x32x64, .f32⟩ : BufTy).Contents (Elt F) → (⟨S8x32x32x32x64, .f32⟩ : BufTy).Contents (Elt F)),
    unary main_v144 main_v148 (broadcastInDim S1x1x1x1x64 ![4] bcast_S64_S1x1x1x1x64_4 : (⟨S64, .f32⟩ : BufTy).Contents (Elt F) → (⟨S1x1x1x1x64, .f32⟩ : BufTy).Contents (Elt F)),
    unary main_v148 main_v149 (broadcastInDim S8x32x32x32x64 ![0, 1, 2, 3, 4] bcast_S1x1x1x1x64_S8x32x32x32x64_0_1_2_3_4 : (⟨S1x1x1x1x64, .f32⟩ : BufTy).Contents (Elt F) → (⟨S8x32x32x32x64, .f32⟩ : BufTy).Contents (Elt F)),
    binary main_v147 main_v149 main_v150 (mulf : (⟨S8x32x32x32x64, .f32⟩ : BufTy).Contents (Elt F) → (⟨S8x32x32x32x64, .f32⟩ : BufTy).Contents (Elt F) → (⟨S8x32x32x32x64, .f32⟩ : BufTy).Contents (Elt F)),
    unary main_arg4 main_v151 (broadcastInDim S1x1x1x1x64 ![4] bcast_S64_S1x1x1x1x64_4 : (⟨S64, .f32⟩ : BufTy).Contents (Elt F) → (⟨S1x1x1x1x64, .f32⟩ : BufTy).Contents (Elt F)),
    unary main_v151 main_v152 (broadcastInDim S8x32x32x32x64 ![0, 1, 2, 3, 4] bcast_S1x1x1x1x64_S8x32x32x32x64_0_1_2_3_4 : (⟨S1x1x1x1x64, .f32⟩ : BufTy).Contents (Elt F) → (⟨S8x32x32x32x64, .f32⟩ : BufTy).Contents (Elt F)),
    binary main_v150 main_v152 main_v153 (addf : (⟨S8x32x32x32x64, .f32⟩ : BufTy).Contents (Elt F) → (⟨S8x32x32x32x64, .f32⟩ : BufTy).Contents (Elt F) → (⟨S8x32x32x32x64, .f32⟩ : BufTy).Contents (Elt F)),
    nullary main_cst_1 (constant S_ .f32 0x00000000#32),
    unary main_cst_1 main_v154 (broadcastInDim S8x32x32x32x64 ![] bcast_S_S8x32x32x32x64 : (⟨S_, .f32⟩ : BufTy).Contents (Elt F) → (⟨S8x32x32x32x64, .f32⟩ : BufTy).Contents (Elt F)),
    binary main_v153 main_v154 main_v155 (cmpf .oge : (⟨S8x32x32x32x64, .f32⟩ : BufTy).Contents (Elt F) → (⟨S8x32x32x32x64, .f32⟩ : BufTy).Contents (Elt F) → (⟨S8x32x32x32x64, .i1⟩ : BufTy).Contents (Elt F)),
    nullary main_cst_2 (constant S_ .f32 0x3DCCCCCD#32),
    unary main_cst_2 main_v156 (broadcastInDim S8x32x32x32x64 ![] bcast_S_S8x32x32x32x64 : (⟨S_, .f32⟩ : BufTy).Contents (Elt F) → (⟨S8x32x32x32x64, .f32⟩ : BufTy).Contents (Elt F)),
    binary main_v156 main_v153 main_v157 (mulf : (⟨S8x32x32x32x64, .f32⟩ : BufTy).Contents (Elt F) → (⟨S8x32x32x32x64, .f32⟩ : BufTy).Contents (Elt F) → (⟨S8x32x32x32x64, .f32⟩ : BufTy).Contents (Elt F)),
    TRef.ternary (TRef.of (T := ⟨S8x32x32x32x64, .i1⟩) main_v155) (TRef.of (T := ⟨S8x32x32x32x64, .f32⟩) main_v153) (TRef.of (T := ⟨S8x32x32x32x64, .f32⟩) main_v157) (TRef.of (T := ⟨S8x32x32x32x64, .f32⟩) main_v158) select,
    reshape main_v158 main_v159 (rfl : (.f32 : EltTy) = .f32) shapeCasts_S8x32x32x32x64_S8x32768x64 ]

theorem ops28_sub : (ops28 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub ..⟩

/-- The stretches, in order. -/
abbrev stretches : List (List (HloOp τ sig (Elt F))) :=
  [ops0, ops1, ops2, ops3, ops4, ops5, ops6, ops7, ops8, ops9, ops10, ops11, ops12, ops13, ops14, ops15, ops16, ops17, ops18, ops19, ops20, ops21, ops22, ops23, ops24, ops25, ops26, ops27, ops28]

/-- The whole line. -/
abbrev line : List (HloOp τ sig (Elt F)) := stretches.flatten

theorem line_sub : (line : List (HloOp τ sig (Elt F))).Forall fun op => op.bufs ⊆ tcRefs τ sig := by
  rw [List.forall_iff_forall_mem]
  intro op h
  obtain ⟨l, hl, ho⟩ := List.mem_flatten.mp h
  simp only [stretches, List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl
  · exact List.forall_iff_forall_mem.mp ops0_sub op ho
  · exact List.forall_iff_forall_mem.mp ops1_sub op ho
  · exact List.forall_iff_forall_mem.mp ops2_sub op ho
  · exact List.forall_iff_forall_mem.mp ops3_sub op ho
  · exact List.forall_iff_forall_mem.mp ops4_sub op ho
  · exact List.forall_iff_forall_mem.mp ops5_sub op ho
  · exact List.forall_iff_forall_mem.mp ops6_sub op ho
  · exact List.forall_iff_forall_mem.mp ops7_sub op ho
  · exact List.forall_iff_forall_mem.mp ops8_sub op ho
  · exact List.forall_iff_forall_mem.mp ops9_sub op ho
  · exact List.forall_iff_forall_mem.mp ops10_sub op ho
  · exact List.forall_iff_forall_mem.mp ops11_sub op ho
  · exact List.forall_iff_forall_mem.mp ops12_sub op ho
  · exact List.forall_iff_forall_mem.mp ops13_sub op ho
  · exact List.forall_iff_forall_mem.mp ops14_sub op ho
  · exact List.forall_iff_forall_mem.mp ops15_sub op ho
  · exact List.forall_iff_forall_mem.mp ops16_sub op ho
  · exact List.forall_iff_forall_mem.mp ops17_sub op ho
  · exact List.forall_iff_forall_mem.mp ops18_sub op ho
  · exact List.forall_iff_forall_mem.mp ops19_sub op ho
  · exact List.forall_iff_forall_mem.mp ops20_sub op ho
  · exact List.forall_iff_forall_mem.mp ops21_sub op ho
  · exact List.forall_iff_forall_mem.mp ops22_sub op ho
  · exact List.forall_iff_forall_mem.mp ops23_sub op ho
  · exact List.forall_iff_forall_mem.mp ops24_sub op ho
  · exact List.forall_iff_forall_mem.mp ops25_sub op ho
  · exact List.forall_iff_forall_mem.mp ops26_sub op ho
  · exact List.forall_iff_forall_mem.mp ops27_sub op ho
  · exact List.forall_iff_forall_mem.mp ops28_sub op ho

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
set_option maxHeartbeats 4000000 in
theorem main_eq (c : Dev nD) : main (F := F) c = seq line := rfl

end Cert.ReferenceIdeal.Conv
end
-- ==== Proof.RefRun.lean ====
module

public import proofs.«01_k».proof.Proof.RefOps

/-!
# What the reference's line of operations leaves in its result

One lemma per tap: each stretch adds its product to the running sum and leaves the padded grid and the
arguments as they were.
-/

@[expose] public section

set_option maxRecDepth 16384

noncomputable section

namespace Cert.ReferenceIdeal.Conv

open Cert.ReferenceIdeal Cert.ReferenceIdeal.Gen Idealize.ShloMosaic Idealize.ShloMosaic.TcCoe Idealize.SL.Sem Idealize.ShloMosaic.StableHlo
open Facts

theorem slices_x (s t u : Fin 3) : S8x34x34x34x64.Slices ![0, s.val, t.val, u.val, 0] S8x32x32x32x64 := by
  revert s t u; decide +kernel

theorem slices_w (s t u : Fin 3) : S64x64x3x3x3.Slices ![0, 0, s.val, t.val, u.val] S64x64x1x1x1 := by
  revert s t u; decide +kernel

/-- The grid with its layer of zeros. -/
def padded (x : FVec Ideal S8x32768x64 .f32) : FVec Ideal S8x34x34x34x64 .f32 :=
  pad S8x34x34x34x64 ![0, 1, 1, 1, 0] ![0, 1, 1, 1, 0] ![0, 0, 0, 0, 0]
    (shapeCast _ x shapeCasts_S8x32768x64_S8x32x32x32x64)
    (sitofp .f32 (constantI S_ 32 0#32)) pads_S8x32x32x32x64_S8x34x34x34x64_000_110_110_110_000 h_S_

/-- The product for one tap. -/
def tapTerm (p : FVec Ideal S8x34x34x34x64 .f32) (w : FVec Ideal S64x64x3x3x3 .f32) (s t u : Fin 3) : FVec Ideal S8x32x32x32x64 .f32 :=
  Host.dotGeneral dot_S8x32x32x32x64_S64x64_S8x32x32x32x64_4_1_0123_0_n_n none
    (extractStridedSlice S8x32x32x32x64 ![0, s.val, t.val, u.val, 0] p (slices_x s t u))
    (shapeCast _ (extractStridedSlice S64x64x1x1x1 ![0, 0, s.val, t.val, u.val] w (slices_w s t u)) shapeCasts_S64x64x1x1x1_S64x64)

/-- The zero the sum starts from. -/
def start : FVec Ideal S8x32x32x32x64 .f32 := broadcastInDim S8x32x32x32x64 ![] bcast_S_S8x32x32x32x64 (constant S_ .f32 0x00000000#32)

/-- The twenty-seven products added up. -/
def total (a : FVec Ideal S8x32x32x32x64 .f32) (D : Fin 3 → Fin 3 → Fin 3 → FVec Ideal S8x32x32x32x64 .f32) : FVec Ideal S8x32x32x32x64 .f32 :=
  addf (addf (addf (addf (addf (addf (addf (addf (addf (addf (addf (addf (addf (addf (addf (addf (addf (addf (addf (addf (addf (addf (addf (addf (addf (addf (addf a (D 0 0 0)) (D 0 0 1)) (D 0 0 2)) (D 0 1 0)) (D 0 1 1)) (D 0 1 2)) (D 0 2 0)) (D 0 2 1)) (D 0 2 2)) (D 1 0 0)) (D 1 0 1)) (D 1 0 2)) (D 1 1 0)) (D 1 1 1)) (D 1 1 2)) (D 1 2 0)) (D 1 2 1)) (D 1 2 2)) (D 2 0 0)) (D 2 0 1)) (D 2 0 2)) (D 2 1 0)) (D 2 1 1)) (D 2 1 2)) (D 2 2 0)) (D 2 2 1)) (D 2 2 2)

/-- A row of per-channel numbers over the whole grid. -/
def up (r : FVec Ideal S64 .f32) : FVec Ideal S8x32x32x32x64 .f32 :=
  broadcastInDim S8x32x32x32x64 ![0, 1, 2, 3, 4] bcast_S1x1x1x1x64_S8x32x32x32x64_0_1_2_3_4 (broadcastInDim S1x1x1x1x64 ![4] bcast_S64_S1x1x1x1x64_4 r)

/-- Bias and batch normalisation. -/
def normal (S : FVec Ideal S8x32x32x32x64 .f32) (b g be mu v : FVec Ideal S64 .f32) : FVec Ideal S8x32x32x32x64 .f32 :=
  addf (mulf (subf (addf S (up b)) (up mu)) (up (Host.divf g (Host.sqrt (addf v (broadcastInDim S64 ![] bcast_S_S64 (constant S_ .f32 0x38D1B717#32))))))) (up be)

/-- LeakyReLU and the final reshape. -/
def tail (y : FVec Ideal S8x32x32x32x64 .f32) : FVec Ideal S8x32768x64 .f32 :=
  shapeCast _ (select (cmpf .oge y (broadcastInDim S8x32x32x32x64 ![] bcast_S_S8x32x32x32x64 (constant S_ .f32 0x00000000#32))) y
    (mulf (broadcastInDim S8x32x32x32x64 ![] bcast_S_S8x32x32x32x64 (constant S_ .f32 0x3DCCCCCD#32)) y)) shapeCasts_S8x32x32x32x64_S8x32768x64

theorem after_app (l₁ l₂ : List (HloOp τ sig (Elt Ideal))) (V : Valuation τ sig (Elt Ideal)) :
    after (l₁ ++ l₂) V = after l₂ (after l₁ V) := by
  induction l₁ generalizing V with
  | nil => rfl
  | cons o l ih => exact ih _

/-- What every stretch keeps: the padded grid and the arguments. -/
def Inv (V : Valuation τ sig (Elt Ideal)) (x : FVec Ideal S8x32768x64 .f32) (p : FVec Ideal S8x34x34x34x64 .f32) (w : FVec Ideal S64x64x3x3x3 .f32) (b g be mu v : FVec Ideal S64 .f32) : Prop :=
  V (Proc.devRef .tc main_v1) = p ∧ V (Proc.devRef .tc main_arg1) = w ∧ V (Proc.devRef .tc main_arg2) = b ∧ V (Proc.devRef .tc main_arg3) = g
    ∧ V (Proc.devRef .tc main_arg4) = be ∧ V (Proc.devRef .tc main_arg5) = mu ∧ V (Proc.devRef .tc main_arg6) = v
    ∧ V (Proc.devRef .tc main_arg0) = x

variable (x : FVec Ideal S8x32768x64 .f32) (p : FVec Ideal S8x34x34x34x64 .f32) (w : FVec Ideal S64x64x3x3x3 .f32) (b g be mu v : FVec Ideal S64 .f32) (a : FVec Ideal S8x32x32x32x64 .f32)

theorem step1 (V : Valuation τ sig (Elt Ideal)) (h : Inv V x p w b g be mu v) (ha : V (Proc.devRef .tc main_v2) = a) :
    Inv (after ops1 V) x p w b g be mu v ∧ after ops1 V (Proc.devRef .tc main_v7) = addf a (tapTerm p w 0 0 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step2 (V : Valuation τ sig (Elt Ideal)) (h : Inv V x p w b g be mu v) (ha : V (Proc.devRef .tc main_v7) = a) :
    Inv (after ops2 V) x p w b g be mu v ∧ after ops2 V (Proc.devRef .tc main_v12) = addf a (tapTerm p w 0 0 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step3 (V : Valuation τ sig (Elt Ideal)) (h : Inv V x p w b g be mu v) (ha : V (Proc.devRef .tc main_v12) = a) :
    Inv (after ops3 V) x p w b g be mu v ∧ after ops3 V (Proc.devRef .tc main_v17) = addf a (tapTerm p w 0 0 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step4 (V : Valuation τ sig (Elt Ideal)) (h : Inv V x p w b g be mu v) (ha : V (Proc.devRef .tc main_v17) = a) :
    Inv (after ops4 V) x p w b g be mu v ∧ after ops4 V (Proc.devRef .tc main_v22) = addf a (tapTerm p w 0 1 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step5 (V : Valuation τ sig (Elt Ideal)) (h : Inv V x p w b g be mu v) (ha : V (Proc.devRef .tc main_v22) = a) :
    Inv (after ops5 V) x p w b g be mu v ∧ after ops5 V (Proc.devRef .tc main_v27) = addf a (tapTerm p w 0 1 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step6 (V : Valuation τ sig (Elt Ideal)) (h : Inv V x p w b g be mu v) (ha : V (Proc.devRef .tc main_v27) = a) :
    Inv (after ops6 V) x p w b g be mu v ∧ after ops6 V (Proc.devRef .tc main_v32) = addf a (tapTerm p w 0 1 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step7 (V : Valuation τ sig (Elt Ideal)) (h : Inv V x p w b g be mu v) (ha : V (Proc.devRef .tc main_v32) = a) :
    Inv (after ops7 V) x p w b g be mu v ∧ after ops7 V (Proc.devRef .tc main_v37) = addf a (tapTerm p w 0 2 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step8 (V : Valuation τ sig (Elt Ideal)) (h : Inv V x p w b g be mu v) (ha : V (Proc.devRef .tc main_v37) = a) :
    Inv (after ops8 V) x p w b g be mu v ∧ after ops8 V (Proc.devRef .tc main_v42) = addf a (tapTerm p w 0 2 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step9 (V : Valuation τ sig (Elt Ideal)) (h : Inv V x p w b g be mu v) (ha : V (Proc.devRef .tc main_v42) = a) :
    Inv (after ops9 V) x p w b g be mu v ∧ after ops9 V (Proc.devRef .tc main_v47) = addf a (tapTerm p w 0 2 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step10 (V : Valuation τ sig (Elt Ideal)) (h : Inv V x p w b g be mu v) (ha : V (Proc.devRef .tc main_v47) = a) :
    Inv (after ops10 V) x p w b g be mu v ∧ after ops10 V (Proc.devRef .tc main_v52) = addf a (tapTerm p w 1 0 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step11 (V : Valuation τ sig (Elt Ideal)) (h : Inv V x p w b g be mu v) (ha : V (Proc.devRef .tc main_v52) = a) :
    Inv (after ops11 V) x p w b g be mu v ∧ after ops11 V (Proc.devRef .tc main_v57) = addf a (tapTerm p w 1 0 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step12 (V : Valuation τ sig (Elt Ideal)) (h : Inv V x p w b g be mu v) (ha : V (Proc.devRef .tc main_v57) = a) :
    Inv (after ops12 V) x p w b g be mu v ∧ after ops12 V (Proc.devRef .tc main_v62) = addf a (tapTerm p w 1 0 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step13 (V : Valuation τ sig (Elt Ideal)) (h : Inv V x p w b g be mu v) (ha : V (Proc.devRef .tc main_v62) = a) :
    Inv (after ops13 V) x p w b g be mu v ∧ after ops13 V (Proc.devRef .tc main_v67) = addf a (tapTerm p w 1 1 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step14 (V : Valuation τ sig (Elt Ideal)) (h : Inv V x p w b g be mu v) (ha : V (Proc.devRef .tc main_v67) = a) :
    Inv (after ops14 V) x p w b g be mu v ∧ after ops14 V (Proc.devRef .tc main_v72) = addf a (tapTerm p w 1 1 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step15 (V : Valuation τ sig (Elt Ideal)) (h : Inv V x p w b g be mu v) (ha : V (Proc.devRef .tc main_v72) = a) :
    Inv (after ops15 V) x p w b g be mu v ∧ after ops15 V (Proc.devRef .tc main_v77) = addf a (tapTerm p w 1 1 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step16 (V : Valuation τ sig (Elt Ideal)) (h : Inv V x p w b g be mu v) (ha : V (Proc.devRef .tc main_v77) = a) :
    Inv (after ops16 V) x p w b g be mu v ∧ after ops16 V (Proc.devRef .tc main_v82) = addf a (tapTerm p w 1 2 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step17 (V : Valuation τ sig (Elt Ideal)) (h : Inv V x p w b g be mu v) (ha : V (Proc.devRef .tc main_v82) = a) :
    Inv (after ops17 V) x p w b g be mu v ∧ after ops17 V (Proc.devRef .tc main_v87) = addf a (tapTerm p w 1 2 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step18 (V : Valuation τ sig (Elt Ideal)) (h : Inv V x p w b g be mu v) (ha : V (Proc.devRef .tc main_v87) = a) :
    Inv (after ops18 V) x p w b g be mu v ∧ after ops18 V (Proc.devRef .tc main_v92) = addf a (tapTerm p w 1 2 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step19 (V : Valuation τ sig (Elt Ideal)) (h : Inv V x p w b g be mu v) (ha : V (Proc.devRef .tc main_v92) = a) :
    Inv (after ops19 V) x p w b g be mu v ∧ after ops19 V (Proc.devRef .tc main_v97) = addf a (tapTerm p w 2 0 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step20 (V : Valuation τ sig (Elt Ideal)) (h : Inv V x p w b g be mu v) (ha : V (Proc.devRef .tc main_v97) = a) :
    Inv (after ops20 V) x p w b g be mu v ∧ after ops20 V (Proc.devRef .tc main_v102) = addf a (tapTerm p w 2 0 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step21 (V : Valuation τ sig (Elt Ideal)) (h : Inv V x p w b g be mu v) (ha : V (Proc.devRef .tc main_v102) = a) :
    Inv (after ops21 V) x p w b g be mu v ∧ after ops21 V (Proc.devRef .tc main_v107) = addf a (tapTerm p w 2 0 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step22 (V : Valuation τ sig (Elt Ideal)) (h : Inv V x p w b g be mu v) (ha : V (Proc.devRef .tc main_v107) = a) :
    Inv (after ops22 V) x p w b g be mu v ∧ after ops22 V (Proc.devRef .tc main_v112) = addf a (tapTerm p w 2 1 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step23 (V : Valuation τ sig (Elt Ideal)) (h : Inv V x p w b g be mu v) (ha : V (Proc.devRef .tc main_v112) = a) :
    Inv (after ops23 V) x p w b g be mu v ∧ after ops23 V (Proc.devRef .tc main_v117) = addf a (tapTerm p w 2 1 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step24 (V : Valuation τ sig (Elt Ideal)) (h : Inv V x p w b g be mu v) (ha : V (Proc.devRef .tc main_v117) = a) :
    Inv (after ops24 V) x p w b g be mu v ∧ after ops24 V (Proc.devRef .tc main_v122) = addf a (tapTerm p w 2 1 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step25 (V : Valuation τ sig (Elt Ideal)) (h : Inv V x p w b g be mu v) (ha : V (Proc.devRef .tc main_v122) = a) :
    Inv (after ops25 V) x p w b g be mu v ∧ after ops25 V (Proc.devRef .tc main_v127) = addf a (tapTerm p w 2 2 0) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step26 (V : Valuation τ sig (Elt Ideal)) (h : Inv V x p w b g be mu v) (ha : V (Proc.devRef .tc main_v127) = a) :
    Inv (after ops26 V) x p w b g be mu v ∧ after ops26 V (Proc.devRef .tc main_v132) = addf a (tapTerm p w 2 2 1) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem step27 (V : Valuation τ sig (Elt Ideal)) (h : Inv V x p w b g be mu v) (ha : V (Proc.devRef .tc main_v132) = a) :
    Inv (after ops27 V) x p w b g be mu v ∧ after ops27 V (Proc.devRef .tc main_v137) = addf a (tapTerm p w 2 2 2) := by
  obtain ⟨h1, h2, h3, h4, h5, h6, h7, h0⟩ := h
  refine ⟨⟨?_, ?_, ?_, ?_, ?_, ?_, ?_, ?_⟩, ?_⟩ <;> after_reads_simp
  all_goals first | assumption | (rw [h1, h2, ha]; rfl)

theorem steps (V : Valuation τ sig (Elt Ideal)) (h : Inv V x p w b g be mu v) (ha : V (Proc.devRef .tc main_v2) = a) :
    ∃ V', Inv V' x p w b g be mu v ∧ V' (Proc.devRef .tc main_v137) = total a (tapTerm p w)
      ∧ ∀ l : List (HloOp τ sig (Elt Ideal)), after ([ops1, ops2, ops3, ops4, ops5, ops6, ops7, ops8, ops9, ops10, ops11, ops12, ops13, ops14, ops15, ops16, ops17, ops18, ops19, ops20, ops21, ops22, ops23, ops24, ops25, ops26, ops27].flatten ++ l) V = after l V' := by
  obtain ⟨i0, a0⟩ : _ ∧ _ := ⟨h, ha⟩
  obtain ⟨i1, a1⟩ := step1 _ _ _ _ _ _ _ _ _ _ i0 a0
  obtain ⟨i2, a2⟩ := step2 _ _ _ _ _ _ _ _ _ _ i1 a1
  obtain ⟨i3, a3⟩ := step3 _ _ _ _ _ _ _ _ _ _ i2 a2
  obtain ⟨i4, a4⟩ := step4 _ _ _ _ _ _ _ _ _ _ i3 a3
  obtain ⟨i5, a5⟩ := step5 _ _ _ _ _ _ _ _ _ _ i4 a4
  obtain ⟨i6, a6⟩ := step6 _ _ _ _ _ _ _ _ _ _ i5 a5
  obtain ⟨i7, a7⟩ := step7 _ _ _ _ _ _ _ _ _ _ i6 a6
  obtain ⟨i8, a8⟩ := step8 _ _ _ _ _ _ _ _ _ _ i7 a7
  obtain ⟨i9, a9⟩ := step9 _ _ _ _ _ _ _ _ _ _ i8 a8
  obtain ⟨i10, a10⟩ := step10 _ _ _ _ _ _ _ _ _ _ i9 a9
  obtain ⟨i11, a11⟩ := step11 _ _ _ _ _ _ _ _ _ _ i10 a10
  obtain ⟨i12, a12⟩ := step12 _ _ _ _ _ _ _ _ _ _ i11 a11
  obtain ⟨i13, a13⟩ := step13 _ _ _ _ _ _ _ _ _ _ i12 a12
  obtain ⟨i14, a14⟩ := step14 _ _ _ _ _ _ _ _ _ _ i13 a13
  obtain ⟨i15, a15⟩ := step15 _ _ _ _ _ _ _ _ _ _ i14 a14
  obtain ⟨i16, a16⟩ := step16 _ _ _ _ _ _ _ _ _ _ i15 a15
  obtain ⟨i17, a17⟩ := step17 _ _ _ _ _ _ _ _ _ _ i16 a16
  obtain ⟨i18, a18⟩ := step18 _ _ _ _ _ _ _ _ _ _ i17 a17
  obtain ⟨i19, a19⟩ := step19 _ _ _ _ _ _ _ _ _ _ i18 a18
  obtain ⟨i20, a20⟩ := step20 _ _ _ _ _ _ _ _ _ _ i19 a19
  obtain ⟨i21, a21⟩ := step21 _ _ _ _ _ _ _ _ _ _ i20 a20
  obtain ⟨i22, a22⟩ := step22 _ _ _ _ _ _ _ _ _ _ i21 a21
  obtain ⟨i23, a23⟩ := step23 _ _ _ _ _ _ _ _ _ _ i22 a22
  obtain ⟨i24, a24⟩ := step24 _ _ _ _ _ _ _ _ _ _ i23 a23
  obtain ⟨i25, a25⟩ := step25 _ _ _ _ _ _ _ _ _ _ i24 a24
  obtain ⟨i26, a26⟩ := step26 _ _ _ _ _ _ _ _ _ _ i25 a25
  obtain ⟨i27, a27⟩ := step27 _ _ _ _ _ _ _ _ _ _ i26 a26
  exact ⟨_, i27, a27, fun l => by simp only [List.flatten_cons, List.flatten_nil, List.append_nil, List.append_assoc, after_app]⟩

theorem first (V : Valuation τ sig (Elt Ideal)) :
    Inv (after ops0 V) (V (Proc.devRef .tc main_arg0)) (padded (V (Proc.devRef .tc main_arg0))) (V (Proc.devRef .tc main_arg1)) (V (Proc.devRef .tc main_arg2)) (V (Proc.devRef .tc main_arg3))
      (V (Proc.devRef .tc main_arg4)) (V (Proc.devRef .tc main_arg5)) (V (Proc.devRef .tc main_arg6))
    ∧ after ops0 V (Proc.devRef .tc main_v2) = start := by
  refine ⟨⟨?_, ?_, ?_, ?_, ?_, ?_, ?_, ?_⟩, ?_⟩ <;> after_reads_simp
  · rfl
  · rfl

theorem last (V : Valuation τ sig (Elt Ideal)) (h : Inv V x p w b g be mu v) (ha : V (Proc.devRef .tc main_v137) = a) :
    Inv (after ops28 V) x p w b g be mu v ∧ after ops28 V (Proc.devRef .tc main_v159) = tail (normal a b g be mu v) := by
  obtain ⟨h1, h2, h3, h4, h5, h6, h7, h0⟩ := h
  refine ⟨⟨?_, ?_, ?_, ?_, ?_, ?_, ?_, ?_⟩, ?_⟩ <;> after_reads_simp
  all_goals first | assumption | (rw [h3, h4, h5, h6, h7, ha]; rfl)

/-- The reference's result, as a function of its arguments. -/
def value (x : FVec Ideal S8x32768x64 .f32) (w : FVec Ideal S64x64x3x3x3 .f32) (b g be mu v : FVec Ideal S64 .f32) : FVec Ideal S8x32768x64 .f32 :=
  tail (normal (total start (tapTerm (padded x) w)) b g be mu v)

/-- The line keeps the arguments and leaves the value. -/
theorem line_result (V : Valuation τ sig (Elt Ideal)) :
    Inv (after line V) (V (Proc.devRef .tc main_arg0)) (padded (V (Proc.devRef .tc main_arg0))) (V (Proc.devRef .tc main_arg1)) (V (Proc.devRef .tc main_arg2)) (V (Proc.devRef .tc main_arg3))
      (V (Proc.devRef .tc main_arg4)) (V (Proc.devRef .tc main_arg5)) (V (Proc.devRef .tc main_arg6))
    ∧ after line V (Proc.devRef .tc main_v159)
      = value (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  obtain ⟨i0, a0⟩ := first V
  obtain ⟨V', i1, a1, h⟩ := steps _ _ _ _ _ _ _ _ _ _ i0 a0
  have e : (line : List (HloOp τ sig (Elt Ideal))) = ops0 ++ ([ops1, ops2, ops3, ops4, ops5, ops6, ops7, ops8, ops9, ops10, ops11, ops12, ops13, ops14, ops15, ops16, ops17, ops18, ops19, ops20, ops21, ops22, ops23, ops24, ops25, ops26, ops27].flatten ++ ops28) := by
    simp only [line, stretches, List.flatten_cons, List.flatten_nil, List.append_nil, List.append_assoc]
  rw [e, after_app, h]
  exact last _ _ _ _ _ _ _ _ _ _ i1 a1

/-- Every weakly fair execution of the reference ends with its value in the result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159) = value (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨⟨_, h1, h2, h3, h4, h5, h6, h0⟩, hv⟩ := line_result (launchContents m c)
      exact ⟨(h c main_v159).trans hv, (h c main_arg0).trans h0, (h c main_arg1).trans h1, (h c main_arg2).trans h2, (h c main_arg3).trans h3,
        (h c main_arg4).trans h4, (h c main_arg5).trans h5, (h c main_arg6).trans h6⟩)
    (run_seq scopedRefs_eq scopedSems_eq defs main (fun _ => line) main_eq (fun _ => line_sub) m ρ)

end Cert.ReferenceIdeal.Conv
end
-- ==== Proof.Slab.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

/-!
# What one grid point of the convolution keeps in its scratch

The scratch holds three slabs of 34 × 32 rows. Row `32·j + z` of a slab holds, side by side, the 64
channels at `z − 1`, `z` and `z + 1` of the zero-padded voxel plane's line `j`.
-/

@[expose] public section

set_option maxRecDepth 16384

noncomputable section

namespace Cert.KernelIdeal.Conv

open Cert.KernelIdeal Cert.KernelIdeal.Gen Idealize.ShloMosaic Idealize.ShloMosaic.TcCoe Idealize.SL.Sem

/-- The voxel grid with one layer of zeros around it, at batch `b` and padded coordinates
`i, j, k` (each runs over `0 … 33`; the grid itself is `1 … 32`). -/
def xpad (x : Fin 8 → Fin 32768 → Fin 64 → EReal) (b : Fin 8) (i j k : ℕ) (c : Fin 64) : EReal :=
  if h : (1 ≤ i ∧ i ≤ 32) ∧ (1 ≤ j ∧ j ≤ 32) ∧ (1 ≤ k ∧ k ≤ 32) then
    x b ⟨((i - 1) * 32 + (j - 1)) * 32 + (k - 1), by omega⟩ c
  else 0

/-- The kernel's `z` coordinate of a row. -/
theorem pay2_apply (q : Fin 1024) (k : Fin 64) : k0_pay2 (ix2 q k) = BitVec.ofNat 32 (q.val % 32) := by
  pointwise [k0_pay2]
  revert q; decide +kernel

theorem sel_first (q : Fin 1024) (x y : EReal) :
    Scalar.select (IntOp.cmpi CmpIPredicate.eq (BitVec.ofNat 32 (q.val % 32)) 0#32) x y
      = if q.val % 32 = 0 then x else y := by
  have h : ∀ q : Fin 1024, IntOp.cmpi CmpIPredicate.eq (BitVec.ofNat 32 (q.val % 32)) 0#32
      = if q.val % 32 = 0 then 1#1 else 0#1 := by decide +kernel
  rw [h]; split <;> simp [Scalar.select]

theorem sel_last (q : Fin 1024) (x y : EReal) :
    Scalar.select (IntOp.cmpi CmpIPredicate.eq (BitVec.ofNat 32 (q.val % 32)) 31#32) x y
      = if q.val % 32 = 31 then x else y := by
  have h : ∀ q : Fin 1024, IntOp.cmpi CmpIPredicate.eq (BitVec.ofNat 32 (q.val % 32)) 31#32
      = if q.val % 32 = 31 then 1#1 else 0#1 := by decide +kernel
  rw [h]; split <;> simp [Scalar.select]

/-- Row `q`, column `k` of a slab's middle part, from the (already masked) plane `v`. -/
def row (v : Fin 1024 → Fin 64 → EReal) (q : Fin 1024) (k : Fin 192) : EReal :=
  if h : k.val < 64 then (if h' : q.val % 32 = 0 then 0 else v ⟨q.val - 1, by omega⟩ ⟨k.val, h⟩)
  else if h2 : k.val - 64 < 64 then v q ⟨k.val - 64, h2⟩
  else (if h' : q.val % 32 = 31 then 0 else v ⟨1 + q.val, by omega⟩ ⟨k.val - 64 - 64, by omega⟩)

/-- A plane multiplied by the 0/1 mask `s`. -/
def masked (s : BitVec 1) (x : Vec Ideal S1x1024x64 .f32) (r : Fin 1024) (c : Fin 64) : EReal :=
  Scalar.select s (x (ix3 0 r c)) 0

theorem pay8_apply (i : grid0.Coords) (x : Vec Ideal S1x1024x64 .f32) (q : Fin 1024) (k : Fin 192) :
    k0_pay8 (k0_pay4 i x) (k0_pay5 i x) (k0_pay6 i x) (ix2 q k)
      = row (masked (Scalar.cmpi .sgt (BitVec.ofNat 32 (i 1).val) 0#32) x) q k := by
  pointwise [k0_pay8, k0_pay4, k0_pay5, k0_pay6, k0_pay3, pay2_apply]
  simp only [sel_first, sel_last, row, masked]
  split_ifs <;> first | rfl | omega

theorem pay12_apply (s : BitVec 1) (x : Vec Ideal S1x1024x64 .f32) (q : Fin 1024) (k : Fin 192) :
    k0_pay12 (k0_pay11 k0_pay2 k0_pay3 s x) (ix2 q k) = row (masked s x) q k := by
  pointwise [k0_pay12, k0_pay11, k0_pay3, pay2_apply]
  simp only [sel_first, sel_last, row, masked]
  split_ifs <;> first | rfl | omega

theorem pay15_apply (s : BitVec 1) (x : Vec Ideal S1x1024x64 .f32) (q : Fin 1024) (k : Fin 192) :
    k0_pay15 k0_pay2 k0_pay3 s x (ix2 q k) = row (masked s x) q k := by
  pointwise [k0_pay15, k0_pay3, pay2_apply]
  simp only [sel_first, sel_last, row, masked]
  split_ifs <;> first | rfl | omega

/-- Where the plane `v` is the padded grid's plane `i`, the slab's row is a line of it. -/
theorem row_eq (x : Fin 8 → Fin 32768 → Fin 64 → EReal) (b : Fin 8) (i : ℕ) (v : Fin 1024 → Fin 64 → EReal)
    (hv : ∀ r c, v r c = xpad x b i (r.val / 32 + 1) (r.val % 32 + 1) c) (q : Fin 1024) (k : Fin 192) :
    row v q k = xpad x b i (q.val / 32 + 1) (q.val % 32 + k.val / 64) ⟨k.val % 64, Nat.mod_lt _ (by decide)⟩ := by
  unfold row
  split_ifs with h h' h2 h'
  · unfold xpad; rw [dif_neg (by omega)]
  · rw [hv]; congr 1 <;> first | omega | (simp only []; omega) | (apply Fin.ext; simp only []; omega)
  · rw [hv]; congr 1 <;> first | omega | (simp only []; omega) | (apply Fin.ext; simp only []; omega)
  · unfold xpad; rw [dif_neg (by omega)]
  · rw [hv]; congr 1 <;> first | omega | (simp only []; omega) | (apply Fin.ext; simp only []; omega)

/-- The zero rows above and below each slab. -/
theorem zero_rows (q : Fin 32) (k : Fin 192) :
    (k0_pay17 (F := Ideal) k0_pay16 (ix2 q k) : EReal) = 0 ∧ (k0_pay14 (F := Ideal) (ix2 q k) : EReal) = 0
      ∧ (k0_pay13 (F := Ideal) (ix2 q k) : EReal) = 0 ∧ (k0_pay10 (F := Ideal) (ix2 q k) : EReal) = 0
      ∧ (k0_pay9 (F := Ideal) (ix2 q k) : EReal) = 0
      ∧ (k0_pay7 (F := Ideal) (0 : EReal) (ix2 q k) : EReal) = 0 := by
  pointwise [k0_pay17, k0_pay16, k0_pay14, k0_pay13, k0_pay10, k0_pay9, k0_pay7]

/-- The scratch as one array: row `ρ` is line `ρ % 1088 / 32` of the padded plane `a + ρ / 1088`. -/
def slab (x : Fin 8 → Fin 32768 → Fin 64 → EReal) (b : Fin 8) (a : ℕ) (y : S3264x192.Idx) : EReal :=
  xpad x b (a + (y 0).val / 1088) ((y 0).val % 1088 / 32) ((y 0).val % 32 + (y 1).val / 64)
    ⟨(y 1).val % 64, Nat.mod_lt _ (by decide)⟩

/-- The nine stores one grid point makes into the scratch, the latest first. -/
def pieces (i : grid0.Coords) (x0 x1 x2 : Vec Ideal S1x1024x64 .f32) : List (View.Piece (Elt Ideal) S3264x192 .bf16) :=
  [⟨Rect.unit ![3232, 0] ![32, 192] (by decide), k0_pay17 (F := Ideal) k0_pay16⟩,
   ⟨Rect.unit ![2208, 0] ![1024, 192] (by decide), k0_pay15 k0_pay2 k0_pay3 (Scalar.cmpi .slt (BitVec.ofNat 32 (i 1).val) 31#32) x2⟩,
   ⟨Rect.unit ![2176, 0] ![32, 192] (by decide), k0_pay14 (F := Ideal)⟩,
   ⟨Rect.unit ![2144, 0] ![32, 192] (by decide), k0_pay13 (F := Ideal)⟩,
   ⟨Rect.unit ![1120, 0] ![1024, 192] (by decide), k0_pay12 (k0_pay11 k0_pay2 k0_pay3 (Scalar.cmpi .sge (BitVec.ofNat 32 (i 1).val) 0#32) x1)⟩,
   ⟨Rect.unit ![1088, 0] ![32, 192] (by decide), k0_pay10 (F := Ideal)⟩,
   ⟨Rect.unit ![1056, 0] ![32, 192] (by decide), k0_pay9 (F := Ideal)⟩,
   ⟨Rect.unit ![32, 0] ![1024, 192] (by decide), k0_pay8 (k0_pay4 i x0) (k0_pay5 i x0) (k0_pay6 i x0)⟩,
   ⟨Rect.unit ![0, 0] ![32, 192] (by decide), k0_pay7 (F := Ideal) (0 : EReal)⟩]

/-- A zero row of the scratch. -/
theorem slab_zero (x : Fin 8 → Fin 32768 → Fin 64 → EReal) (b : Fin 8) (a : ℕ) (y : S3264x192.Idx)
    (h : (y 0).val % 1088 / 32 = 0 ∨ (y 0).val % 1088 / 32 = 33) : slab x b a y = 0 := by
  unfold slab xpad; rw [dif_neg (by omega)]

/-- A middle row of the scratch. -/
theorem slab_row (x : Fin 8 → Fin 32768 → Fin 64 → EReal) (b : Fin 8) (a i n : ℕ) (v : Fin 1024 → Fin 64 → EReal)
    (hv : ∀ r c, v r c = xpad x b i (r.val / 32 + 1) (r.val % 32 + 1) c) (q : Fin 1024) (k : Fin 192)
    (y : S3264x192.Idx) (h0 : (y 0).val = n * 1088 + 32 + q.val) (h1 : (y 1).val = k.val) (hn : i = a + n) :
    row v q k = slab x b a y := by
  rw [row_eq x b i v hv]
  unfold slab
  congr 1 <;> first | omega | (apply Fin.ext; simp only []; omega)

variable (x : Fin 8 → Fin 32768 → Fin 64 → EReal) (b : Fin 8) (i : grid0.Coords) (x0 x1 x2 : Vec Ideal S1x1024x64 .f32)

/-- The three masked planes of a grid point are the padded grid's planes `i`, `i + 1`, `i + 2`. -/
def Planes : Prop :=
  (∀ r c, masked (Scalar.cmpi .sgt (BitVec.ofNat 32 (i 1).val) 0#32) x0 r c = xpad x b ((i 1).val + 0) (r.val / 32 + 1) (r.val % 32 + 1) c)
  ∧ (∀ r c, masked (Scalar.cmpi .sge (BitVec.ofNat 32 (i 1).val) 0#32) x1 r c = xpad x b ((i 1).val + 1) (r.val / 32 + 1) (r.val % 32 + 1) c)
  ∧ (∀ r c, masked (Scalar.cmpi .slt (BitVec.ofNat 32 (i 1).val) 31#32) x2 r c = xpad x b ((i 1).val + 2) (r.val / 32 + 1) (r.val % 32 + 1) c)

theorem pieces_of (h : Planes x b i x0 x1 x2) :
    View.PiecesOf (Val := Elt Ideal) (slab x b (i 1).val : S3264x192.Idx → EReal) (pieces i x0 x1 x2) := by
  obtain ⟨h0, h1, h2⟩ := h
  simp only [pieces, View.PiecesOf]
  refine ⟨fun y => ?_, fun y => ?_, fun y => ?_, fun y => ?_, fun y => ?_, fun y => ?_, fun y => ?_, fun y => ?_, fun y => ?_, trivial⟩
  · obtain ⟨q, k, rfl⟩ : ∃ (q : Fin 32) (k : Fin 192), y = ix2 q k := ⟨y 0, y 1, (ix2_eta y).symm⟩
    refine (zero_rows q k).1.trans (slab_zero x b _ _ ?_).symm
    have : ((Rect.unit ![3232, 0] ![32, 192] (by decide) : Rect S3264x192).emb (ix2 q k) 0).val = 3232 + 1 * q.val := rfl
    omega
  · obtain ⟨q, k, rfl⟩ : ∃ (q : Fin 1024) (k : Fin 192), y = ix2 q k := ⟨y 0, y 1, (ix2_eta y).symm⟩
    refine (pay15_apply _ x2 q k).trans (slab_row x b _ _ 2 _ h2 q k _ ?_ ?_ rfl)
    · show 2208 + 1 * q.val = _; omega
    · show 0 + 1 * k.val = _; omega
  · obtain ⟨q, k, rfl⟩ : ∃ (q : Fin 32) (k : Fin 192), y = ix2 q k := ⟨y 0, y 1, (ix2_eta y).symm⟩
    refine (zero_rows q k).2.1.trans (slab_zero x b _ _ ?_).symm
    have : ((Rect.unit ![2176, 0] ![32, 192] (by decide) : Rect S3264x192).emb (ix2 q k) 0).val = 2176 + 1 * q.val := rfl
    omega
  · obtain ⟨q, k, rfl⟩ : ∃ (q : Fin 32) (k : Fin 192), y = ix2 q k := ⟨y 0, y 1, (ix2_eta y).symm⟩
    refine (zero_rows q k).2.2.1.trans (slab_zero x b _ _ ?_).symm
    have : ((Rect.unit ![2144, 0] ![32, 192] (by decide) : Rect S3264x192).emb (ix2 q k) 0).val = 2144 + 1 * q.val := rfl
    omega
  · obtain ⟨q, k, rfl⟩ : ∃ (q : Fin 1024) (k : Fin 192), y = ix2 q k := ⟨y 0, y 1, (ix2_eta y).symm⟩
    refine (pay12_apply _ x1 q k).trans (slab_row x b _ _ 1 _ h1 q k _ ?_ ?_ rfl)
    · show 1120 + 1 * q.val = _; omega
    · show 0 + 1 * k.val = _; omega
  · obtain ⟨q, k, rfl⟩ : ∃ (q : Fin 32) (k : Fin 192), y = ix2 q k := ⟨y 0, y 1, (ix2_eta y).symm⟩
    refine (zero_rows q k).2.2.2.1.trans (slab_zero x b _ _ ?_).symm
    have : ((Rect.unit ![1088, 0] ![32, 192] (by decide) : Rect S3264x192).emb (ix2 q k) 0).val = 1088 + 1 * q.val := rfl
    omega
  · obtain ⟨q, k, rfl⟩ : ∃ (q : Fin 32) (k : Fin 192), y = ix2 q k := ⟨y 0, y 1, (ix2_eta y).symm⟩
    refine (zero_rows q k).2.2.2.2.1.trans (slab_zero x b _ _ ?_).symm
    have : ((Rect.unit ![1056, 0] ![32, 192] (by decide) : Rect S3264x192).emb (ix2 q k) 0).val = 1056 + 1 * q.val := rfl
    omega
  · obtain ⟨q, k, rfl⟩ : ∃ (q : Fin 1024) (k : Fin 192), y = ix2 q k := ⟨y 0, y 1, (ix2_eta y).symm⟩
    refine (pay8_apply i x0 q k).trans (slab_row x b _ _ 0 _ h0 q k _ ?_ ?_ rfl)
    · show 32 + 1 * q.val = _; omega
    · show 0 + 1 * k.val = _; omega
  · obtain ⟨q, k, rfl⟩ : ∃ (q : Fin 32) (k : Fin 192), y = ix2 q k := ⟨y 0, y 1, (ix2_eta y).symm⟩
    refine (zero_rows q k).2.2.2.2.2.trans (slab_zero x b _ _ ?_).symm
    have : ((Rect.unit ![0, 0] ![32, 192] (by decide) : Rect S3264x192).emb (ix2 q k) 0).val = 0 + 1 * q.val := rfl
    omega

theorem pieces_cover (y : S3264x192.Idx) : ∃ p ∈ pieces i x0 x1 x2, y ∈ p.1.set :=
  View.cover_of_tiledBy _ ![32, 192] (by sl_kernel_rfl) y

/-- Any load from the scratch after the nine stores reads the padded grid. -/
theorem read_slab (h : Planes x b i x0 x1 x2) (v : View sig .tc .vmem S3264x192 .bf16) (B : LoadRect S3264x192) (j : B.shape.Idx) :
    v.readCov (pieces i x0 x1 x2) B j = slab x b (i 1).val (B.idx j) := by
  rw [View.readCov_eq_canon']
  have := View.canon_append_of_piecesOf _ [] _ (pieces_of x b i x0 x1 x2 h) (B.idx j) (pieces_cover i x0 x1 x2 _)
  rwa [List.append_nil] at this

end Cert.KernelIdeal.Conv
end
-- ==== Proof.Block.lean ====
module

public import proofs.«01_k».proof.Proof.Slab

/-!
# The value of one output block of the convolution

Nine products with contraction 192 are twenty-seven taps of 64 channels each.
-/

@[expose] public section

set_option maxRecDepth 16384

noncomputable section

namespace Cert.KernelIdeal.Conv

open Cert.KernelIdeal Cert.KernelIdeal.Gen Idealize.ShloMosaic Idealize.ShloMosaic.TcCoe Idealize.SL.Sem

/-- One tap of the convolution at voxel `(a, y, z)` and output channel `o`. -/
def tap (x : Fin 8 → Fin 32768 → Fin 64 → EReal) (w : Fin 64 → Fin 64 → Fin 3 → Fin 3 → Fin 3 → EReal)
    (b : Fin 8) (a y z : ℕ) (o : Fin 64) (s t u : Fin 3) : EReal :=
  ∑ c : Fin 64, xpad x b (a + s.val) (y + t.val) (z + u.val) c * w o c s t u

/-- A sum over the 192 columns of a row, by the three groups of 64. -/
theorem sum_192 (f : Fin 192 → EReal) :
    ∑ k, f k = ((∑ c : Fin 64, f ⟨c.val, by omega⟩) + ∑ c : Fin 64, f ⟨64 + c.val, by omega⟩) + ∑ c : Fin 64, f ⟨128 + c.val, by omega⟩ := by
  rw [show ∑ k, f k = ∑ k : Fin (128 + 64), f k from rfl, Fin.sum_univ_add,
    show ∑ k : Fin 128, f (Fin.castAdd 64 k) = ∑ k : Fin (64 + 64), f (Fin.castAdd 64 k) from rfl, Fin.sum_univ_add]
  rfl

/-- All the taps, in the kernel's order of the nine products. -/
def taps (x : Fin 8 → Fin 32768 → Fin 64 → EReal) (w : Fin 64 → Fin 64 → Fin 3 → Fin 3 → Fin 3 → EReal)
    (b : Fin 8) (a y z : ℕ) (o : Fin 64) (s t : Fin 3) : EReal :=
  (tap x w b a y z o s t 0 + tap x w b a y z o s t 1) + tap x w b a y z o s t 2

variable (x : Fin 8 → Fin 32768 → Fin 64 → EReal) (w : Fin 64 → Fin 64 → Fin 3 → Fin 3 → Fin 3 → EReal)
  (b : Fin 8) (i : grid0.Coords) (x0 x1 x2 : Vec Ideal S1x1024x64 .f32) (x3 : Vec Ideal S3x3x192x64 .bf16)

/-- The weights as the kernel holds them: the tap's last coordinate and the input channel share an axis. -/
def Weights : Prop :=
  ∀ (s t u : Fin 3) (c o : Fin 64), x3 (ix4 s t (⟨64 * u.val + c.val, by omega⟩ : Fin 192) o) = w o c s t u

/-- One of the nine products at a row and an output channel. -/
theorem product (h : Planes x b i x0 x1 x2) (hw : Weights w x3) (v : View sig .tc .vmem S3264x192 .bf16)
    (s t : Fin 3) (off : Fin 2 → ℕ) (inb) (ho : off = ![s.val * 1088 + t.val * 32, 0]) (r : Fin 1024) (o : Fin 64) :
    (∑ k : Fin 192, (v.readCov (Val := Elt Ideal) (pieces i x0 x1 x2) (Rect.unit off ![1024, 192] inb : Rect S3264x192).toLoadRect (ix2 r k) : EReal)
        * (x3 (ix4 s t k o) : EReal))
      = taps x w b (i 1).val (r.val / 32) (r.val % 32) o s t := by
  subst ho
  have e : ∀ (u : Fin 3) (c : Fin 64) (k : Fin 192), k.val = 64 * u.val + c.val →
      (v.readCov (Val := Elt Ideal) (pieces i x0 x1 x2) (Rect.unit ![s.val * 1088 + t.val * 32, 0] ![1024, 192] inb : Rect S3264x192).toLoadRect (ix2 r k) : EReal)
        * (x3 (ix4 s t k o) : EReal)
      = xpad x b ((i 1).val + s.val) (r.val / 32 + t.val) (r.val % 32 + u.val) c * w o c s t u := by
    intro u c k hk
    rw [read_slab x b i x0 x1 x2 h]
    congr 1
    · have h0 : ((Rect.unit ![s.val * 1088 + t.val * 32, 0] ![1024, 192] inb : Rect S3264x192).toLoadRect.idx (ix2 r k) 0).val
          = s.val * 1088 + t.val * 32 + 1 * r.val := rfl
      have h1 : ((Rect.unit ![s.val * 1088 + t.val * 32, 0] ![1024, 192] inb : Rect S3264x192).toLoadRect.idx (ix2 r k) 1).val
          = 0 + 1 * k.val := rfl
      unfold slab
      congr 1 <;> first | omega | (apply Fin.ext; simp only []; omega)
    · rw [← hw s t u c o]
      exact congrArg (fun k => x3 (ix4 s t k o)) (Fin.ext hk)
  rw [sum_192]
  unfold taps tap
  refine congrArg₂ _ (congrArg₂ _ (Finset.sum_congr rfl fun c _ => e 0 c _ ?_) (Finset.sum_congr rfl fun c _ => e 1 c _ ?_)) (Finset.sum_congr rfl fun c _ => e 2 c _ ?_) <;> simp

/-- LeakyReLU with the kernel's slope. -/
def leaky (v : EReal) : EReal :=
  if 0 ≤ v then v else Ideal.ofBits .f32 1036831949#32 * v

theorem block (c : Dev nD) (arg2 : Memref sig .tc .vmem S1x1024x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S3x3x192x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x1024x64 .f32) (harg8 : arg8.IsWhole) (arg9 : Memref sig .tc .vmem S3264x192 .bf16) (harg9 : arg9.IsWhole)
    (x4 x5 : Vec Ideal S1x64 .f32) (h : Planes x b i x0 x1 x2) (hw : Weights w x3) (r : Fin 1024) (o : Fin 64) :
    out0_A_6 (F := Ideal) c i arg2 harg2 arg3 harg3 arg4 harg4 arg5 harg5 arg6 harg6 arg7 harg7 arg8 harg8 arg9 harg9 x0 x1 x2 x3 x4 x5 (ix3 0 r o)
      = leaky ((taps x w b (i 1).val (r.val / 32) (r.val % 32) o 0 0 + taps x w b (i 1).val (r.val / 32) (r.val % 32) o 0 1
          + taps x w b (i 1).val (r.val / 32) (r.val % 32) o 0 2 + taps x w b (i 1).val (r.val / 32) (r.val % 32) o 1 0
          + taps x w b (i 1).val (r.val / 32) (r.val % 32) o 1 1 + taps x w b (i 1).val (r.val / 32) (r.val % 32) o 1 2
          + taps x w b (i 1).val (r.val / 32) (r.val % 32) o 2 0 + taps x w b (i 1).val (r.val / 32) (r.val % 32) o 2 1
          + taps x w b (i 1).val (r.val / 32) (r.val % 32) o 2 2) * x4 (ix2 0 o) + x5 (ix2 0 o)) := by
  frame_out
  pointwise [k0_pay1, k0_pay19, k0_pay18]
  change leaky _ = _
  refine congrArg leaky (congrArg₂ _ (congrArg₂ _ ?_ rfl) rfl)
  refine congrArg₂ _ (congrArg₂ _ (congrArg₂ _ (congrArg₂ _ (congrArg₂ _ (congrArg₂ _ (congrArg₂ _ (congrArg₂ _ ?_ ?_) ?_) ?_) ?_) ?_) ?_) ?_) ?_
  · exact product x w b i x0 x1 x2 x3 h hw arg9.view 0 0 _ _ rfl r o
  · exact product x w b i x0 x1 x2 x3 h hw arg9.view 0 1 _ _ rfl r o
  · exact product x w b i x0 x1 x2 x3 h hw arg9.view 0 2 _ _ rfl r o
  · exact product x w b i x0 x1 x2 x3 h hw arg9.view 1 0 _ _ rfl r o
  · exact product x w b i x0 x1 x2 x3 h hw arg9.view 1 1 _ _ rfl r o
  · exact product x w b i x0 x1 x2 x3 h hw arg9.view 1 2 _ _ rfl r o
  · exact product x w b i x0 x1 x2 x3 h hw arg9.view 2 0 _ _ rfl r o
  · exact product x w b i x0 x1 x2 x3 h hw arg9.view 2 1 _ _ rfl r o
  · exact product x w b i x0 x1 x2 x3 h hw arg9.view 2 2 _ _ rfl r o

end Cert.KernelIdeal.Conv
end
-- ==== Proof.Array.lean ====
module

public import proofs.«01_k».proof.Proof.Block
public import Idealize.ShloMosaic.Lib.Claim

/-!
# The kernel's result array
-/

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)

/-- The convolution at one voxel and one output channel, in the kernel's order. -/
def acc (x : Fin 8 → Fin 32768 → Fin 64 → EReal) (w : Fin 64 → Fin 64 → Fin 3 → Fin 3 → Fin 3 → EReal)
    (b : Fin 8) (a y z : ℕ) (o : Fin 64) : EReal :=
  taps x w b a y z o 0 0 + taps x w b a y z o 0 1 + taps x w b a y z o 0 2 + taps x w b a y z o 1 0
    + taps x w b a y z o 1 1 + taps x w b a y z o 1 2 + taps x w b a y z o 2 0 + taps x w b a y z o 2 1
    + taps x w b a y z o 2 2

/-- The batch normalisation's factor. -/
def scale (g v : EReal) : EReal := Ideal.div g (Ideal.sqrt (v + Ideal.ofBits .f32 0x38D1B717#32))

theorem index0 : ∀ t : Fin cfg0.N, win0_0.index t = ![(grid0.coords t 0).val, (grid0.coords t 1).val - 1, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![(grid0.coords t 0).val, min ((grid0.coords t 1).val + 1) 31, 0] :=
  (by decide +kernel : ∀ t : Fin grid0.N, _)
theorem index3 : ∀ t : Fin cfg0.N, win0_3.index t = ![0, 0, 0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![(grid0.coords t 0).val, (grid0.coords t 1).val, 0] :=
  (by decide +kernel : ∀ t : Fin grid0.N, _)

variable (m : (ℓ : Loc nD τ sig) → Buf (Elt Ideal) ℓ) (c : Dev nD)

def argX (b : Fin 8) (v : Fin 32768) (k : Fin 64) : EReal := m ((c : Thread nD τ).loc main_arg0) (ix3 b v k)
def argW (o k : Fin 64) (s t u : Fin 3) : EReal := m ((c : Thread nD τ).loc main_arg1) (ix5 o k s t u)
def argB (o : Fin 64) : EReal := m ((c : Thread nD τ).loc main_arg2) (ix1 o)
def argG (o : Fin 64) : EReal := m ((c : Thread nD τ).loc main_arg3) (ix1 o)
def argBeta (o : Fin 64) : EReal := m ((c : Thread nD τ).loc main_arg4) (ix1 o)
def argM (o : Fin 64) : EReal := m ((c : Thread nD τ).loc main_arg5) (ix1 o)
def argV (o : Fin 64) : EReal := m ((c : Thread nD τ).loc main_arg6) (ix1 o)

/-- The kernel's result array, entry by entry. -/
def result (y : S8x32768x64.Idx) : EReal :=
  leaky (acc (argX m c) (argW m c) (y 0) ((y 1).val / 1024) ((y 1).val % 1024 / 32) ((y 1).val % 32) (y 2)
      * scale (argG m c (y 2)) (argV m c (y 2))
    + ((argB m c (y 2) - argM m c (y 2)) * scale (argG m c (y 2)) (argV m c (y 2)) + argBeta m c (y 2)))

theorem blk4 (t : Fin cfg0.N) (o : Fin 64) : iblk m c 4 t (ix2 0 o)
    = scale (argG m c o) (argV m c o) := by
  have e : (win0_4.blk t).view.emb (ix2 (0 : Fin 1) o) = ix2 (0 : Fin 1) o := by blk_ext [index4]
  blk_simp [iblk]
  rw [e]
  entry_read
  pointwise
  rfl

theorem blk5 (t : Fin cfg0.N) (o : Fin 64) : iblk m c 5 t (ix2 0 o)
    = (argB m c o - argM m c o) * scale (argG m c o) (argV m c o) + argBeta m c o := by
  have e : (win0_5.blk t).view.emb (ix2 (0 : Fin 1) o) = ix2 (0 : Fin 1) o := by blk_ext [index5]
  blk_simp [iblk]
  rw [e]
  entry_read
  pointwise
  rfl

theorem weights (t : Fin cfg0.N) : Weights (argW m c) (iblk m c 3 t) := by
  intro s t' u k o
  blk_simp [iblk, index3]
  entry_read
  pointwise
  unfold argW
  refine congrArg (m ((c : Thread nD τ).loc main_arg1)) ?_
  blk_ext [index3]

theorem plane_sgt : ∀ a : Fin 32, Scalar.cmpi .sgt (BitVec.ofNat 32 a.val) 0#32 = if 0 < a.val then 1#1 else 0#1 := by decide +kernel
theorem plane_sge : ∀ a : Fin 32, Scalar.cmpi .sge (BitVec.ofNat 32 a.val) 0#32 = 1#1 := by decide +kernel
theorem plane_slt : ∀ a : Fin 32, Scalar.cmpi .slt (BitVec.ofNat 32 a.val) 31#32 = if a.val < 31 then 1#1 else 0#1 := by decide +kernel

theorem planes (t : Fin cfg0.N) : Planes (argX m c) (grid0.coords t 0) (grid0.coords t) (iblk m c 0 t) (iblk m c 1 t) (iblk m c 2 t) := by
  have ha : (grid0.coords t 1).val < 32 := (grid0.coords t 1).isLt
  refine ⟨?_, ?_, ?_⟩ <;> intro r k <;> unfold masked
  · rw [plane_sgt (grid0.coords t 1)]
    by_cases h : 0 < (grid0.coords t 1).val
    · rw [if_pos h]
      unfold xpad
      rw [dif_pos (by omega)]
      show iblk m c 0 t (ix3 0 r k) = argX m c _ _ _
      blk_simp [iblk]
      rw [V_main_arg0]
      refine congrArg (m ((c : Thread nD τ).loc main_arg0)) ?_
      blk_ext [index0]
    · rw [if_neg h]
      unfold xpad
      rw [dif_neg (by omega)]
      rfl
  · rw [plane_sge (grid0.coords t 1)]
    unfold xpad
    rw [dif_pos (by omega)]
    show iblk m c 1 t (ix3 0 r k) = argX m c _ _ _
    blk_simp [iblk]
    rw [V_main_arg0]
    refine congrArg (m ((c : Thread nD τ).loc main_arg0)) ?_
    blk_ext [index1]
  · rw [plane_slt (grid0.coords t 1)]
    by_cases h : (grid0.coords t 1).val < 31
    · rw [if_pos h]
      unfold xpad
      rw [dif_pos (by omega)]
      show iblk m c 2 t (ix3 0 r k) = argX m c _ _ _
      blk_simp [iblk]
      rw [V_main_arg0]
      refine congrArg (m ((c : Thread nD τ).loc main_arg0)) ?_
      blk_ext [index2]
    · rw [if_neg h]
      unfold xpad
      rw [dif_neg (by omega)]
      rfl

theorem array_eq : (dats m 0 c).arrAt 6 cfg0.N = result m c := by
  refine (dats m 0 c).arrAt_eq_of_covers 6 _ (by decide +kernel) fun t hf y => ?_
  blk_simp
  rw [after0_6]
  obtain ⟨z, r, o, rfl⟩ : ∃ (z : Fin 1) (r : Fin 1024) (o : Fin 64), y = ix3 z r o := ⟨y 0, y 1, y 2, (ix3_eta y).symm⟩
  obtain rfl : z = 0 := Subsingleton.elim _ _
  unfold outsAt0
  refine (block _ _ _ _ _ _ _ _ _ _ _ _ _ _ _ _ _ _ _ _ _ _ _ _ _ _ _ (planes m c t) (weights m c t) r o).trans ?_
  rw [blk4, blk5]
  have ha : (grid0.coords t 1).val < 32 := (grid0.coords t 1).isLt
  have e0 : (win0_6.blk t).view.emb (ix3 (0 : Fin 1) r o) = ix3 (grid0.coords t 0 : Fin 8) (⟨(grid0.coords t 1).val * 1024 + r.val, by omega⟩ : Fin 32768) o := by
    blk_ext [index6]
  rw [e0]
  have e1 : ((grid0.coords t 1).val * 1024 + r.val) / 1024 = (grid0.coords t 1).val := by omega
  have e2 : ((grid0.coords t 1).val * 1024 + r.val) % 1024 / 32 = r.val / 32 := by omega
  have e3 : ((grid0.coords t 1).val * 1024 + r.val) % 32 = r.val % 32 := by omega
  show _ = leaky (acc (argX m c) (argW m c) (grid0.coords t 0) (((grid0.coords t 1).val * 1024 + r.val) / 1024)
    (((grid0.coords t 1).val * 1024 + r.val) % 1024 / 32) (((grid0.coords t 1).val * 1024 + r.val) % 32) o * _ + _)
  rw [e1, e2, e3]
  rfl

end Cert.KernelIdeal.Conv
end
-- ==== Proof.Reference.lean ====
module

public import proofs.«01_k».proof.Proof.RefRun
public import proofs.«01_k».proof.Proof.Array

/-!
# The reference's value, element by element
-/

@[expose] public section

set_option maxRecDepth 16384

noncomputable section

namespace Cert.ReferenceIdeal.Conv

open Cert.ReferenceIdeal Cert.ReferenceIdeal.Gen Idealize.ShloMosaic Idealize.ShloMosaic.TcCoe Idealize.SL.Sem Idealize.ShloMosaic.StableHlo
open Facts

/-- One product at one element: the sum over the channels of the tap. -/
theorem tapTerm_apply (x : FVec Ideal S8x32768x64 .f32) (w : FVec Ideal S64x64x3x3x3 .f32) (s t u : Fin 3) (b : Fin 8) (i j k : Fin 32) (o : Fin 64) :
    tapTerm (padded x) w s t u (ix5 b i j k o)
      = KernelIdeal.Conv.tap (fun b v c => x (ix3 b v c)) (fun o c s t u => w (ix5 o c s t u)) b i.val j.val k.val o s t u := by
  unfold KernelIdeal.Conv.tap KernelIdeal.Conv.xpad
  pointwise [tapTerm, padded]
  refine Finset.sum_congr rfl fun r _ => ?_
  congr 1
  have h0 : FloatOps.sitofp (F := Ideal) .f32 (0#32) = (0 : EReal) := by
    show (((0#32 : BitVec 32).toInt : ℝ) : EReal) = 0
    simp
  have ei : s.val + i.val = i.val + s.val := Nat.add_comm _ _
  have ej : t.val + j.val = j.val + t.val := Nat.add_comm _ _
  have ek : u.val + k.val = k.val + u.val := Nat.add_comm _ _
  split_ifs with h h' h'
  · exact congrArg (fun q => x (ix3 b q r)) (Fin.ext (by show (s.val + i.val - 1) * 1024 + (t.val + j.val - 1) * 32 + (u.val + k.val - 1) = ((i.val + s.val - 1) * 32 + (j.val + t.val - 1)) * 32 + (k.val + u.val - 1); omega))
  · exact absurd h (by omega)
  · exact absurd h' (by omega)
  · exact h0

/-- The twenty-seven numbers in the order of the sum. -/
def sum27 (f : Fin 3 → Fin 3 → Fin 3 → EReal) : EReal :=
  0 + f 0 0 0 + f 0 0 1 + f 0 0 2 + f 0 1 0 + f 0 1 1 + f 0 1 2 + f 0 2 0 + f 0 2 1 + f 0 2 2 + f 1 0 0 + f 1 0 1 + f 1 0 2 + f 1 1 0 + f 1 1 1 + f 1 1 2 + f 1 2 0 + f 1 2 1 + f 1 2 2 + f 2 0 0 + f 2 0 1 + f 2 0 2 + f 2 1 0 + f 2 1 1 + f 2 1 2 + f 2 2 0 + f 2 2 1 + f 2 2 2

theorem total_apply (D : Fin 3 → Fin 3 → Fin 3 → FVec Ideal S8x32x32x32x64 .f32) (y : S8x32x32x32x64.Idx) :
    total start D y = sum27 (fun s t u => D s t u y) := by
  unfold total sum27
  pointwise [start]
  all_goals rfl

theorem normal_apply (S : FVec Ideal S8x32x32x32x64 .f32) (b g be mu v : FVec Ideal S64 .f32) (n : Fin 8) (i j k : Fin 32) (o : Fin 64) :
    normal S b g be mu v (ix5 n i j k o) = (S (ix5 n i j k o) + b (ix1 o) - mu (ix1 o)) * KernelIdeal.Conv.scale (g (ix1 o)) (v (ix1 o)) + be (ix1 o) := by
  unfold KernelIdeal.Conv.scale
  pointwise [normal, up]
  all_goals rfl

theorem tail_apply (y : FVec Ideal S8x32x32x32x64 .f32) (n : Fin 8) (r : Fin 32768) (o : Fin 64) :
    tail y (ix3 n r o) = KernelIdeal.Conv.leaky (y (ix5 n ⟨r.val / 1024, by omega⟩ ⟨r.val % 1024 / 32, by omega⟩ ⟨r.val % 32, by omega⟩ o)) := by
  have e : (⟨r.val % 1024 / 32, by omega⟩ : Fin 32) = ⟨r.val / 32 % 32, by omega⟩ := Fin.ext (by simp only; omega)
  rw [e]
  unfold KernelIdeal.Conv.leaky
  pointwise [tail]

end Cert.ReferenceIdeal.Conv
end
-- ==== Proof.Equation.lean ====
module

public import proofs.«01_k».proof.Proof.Reference
public import proofs.«01_k».proof.Proof.Gen.Pre_stats
public import Idealize.ShloMosaic.Lib.ReduceAll

/-!
# The two arrays are equal

The precondition is read first: bias, gamma and mean are real numbers and the variance is not negative. Then the
batch normalisation with the bias folded into one shift equals the one that adds the bias to the convolution.
-/

@[expose] public section

set_option maxRecDepth 16384

noncomputable section

namespace Cert.Equation

open Idealize.ShloMosaic Idealize.ShloMosaic.TcCoe Idealize.SL.Sem
open Cert.Pre_stats (S64 S8x32768x64 S64x64x3x3x3)

/-- A number that a comparison of its absolute value with infinity accepts. -/
theorem finite_of_abs (x : EReal) (h : max x (-x) < ⊤) : ∃ r : ℝ, x = r := by
  induction x using EReal.rec with
  | bot => simp at h
  | top => simp at h
  | coe r => exact ⟨r, rfl⟩

/-- What the precondition says of each channel. -/
theorem stats_read (x : FVec Ideal S8x32768x64 .f32) (w : FVec Ideal S64x64x3x3x3 .f32) (b g be mu v : FVec Ideal S64 .f32)
    (h : @Cert.Pre_stats.fn Cert.Pre_stats.Gen.facts Ideal _ x w b g be mu v = fun _ => 1#1) (o : Fin 64) :
    (∃ r : ℝ, b (ix1 o) = r) ∧ (∃ r : ℝ, g (ix1 o) = r) ∧ (∃ r : ℝ, mu (ix1 o) = r) ∧ 0 ≤ v (ix1 o) := by
  have e := congrFun h (fun d => d.elim0)
  unfold Cert.Pre_stats.fn Cert.Pre_stats.fn_part1 at e
  obtain ⟨e1, e4⟩ := IntOp.andi_eq_one.1 e
  obtain ⟨e1, e3⟩ := IntOp.andi_eq_one.1 e1
  obtain ⟨e1, e2⟩ := IntOp.andi_eq_one.1 e1
  have a1 := Host.reduce_andi_all _ _ _ _ _ e1 (ix1 o)
  have a2 := Host.reduce_andi_all _ _ _ _ _ e2 (ix1 o)
  have a3 := Host.reduce_andi_all _ _ _ _ _ e3 (ix1 o)
  have a4 := Host.reduce_andi_all _ _ _ _ _ e4 (ix1 o)
  have inf : Ideal.ofBits .f32 0x7F800000#32 = ⊤ := by simp [Ideal.ofBits, Ideal.ieee]
  refine ⟨finite_of_abs _ ?_, finite_of_abs _ ?_, finite_of_abs _ ?_, ?_⟩
  · rw [← inf]; exact (Ideal.cmp_olt_eq_one _ _).1 a1
  · rw [← inf]; exact (Ideal.cmp_olt_eq_one _ _).1 a2
  · rw [← inf]; exact (Ideal.cmp_olt_eq_one _ _).1 a3
  · have z := (Ideal.cmp_oge_eq_one _ _).1 a4
    exact Ideal.ofBits_zero_f32 ▸ z

/-- The two forms of the batch normalisation. -/
theorem shift_eq (s a b mu be : EReal) (ha : ∃ r : ℝ, a = r) (hb : ∃ r : ℝ, b = r) (hm : ∃ r : ℝ, mu = r) :
    s * a + ((b - mu) * a + be) = (s + b - mu) * a + be := by
  obtain ⟨a, rfl⟩ := ha
  obtain ⟨b, rfl⟩ := hb
  obtain ⟨mu, rfl⟩ := hm
  rw [← add_assoc, add_sub_assoc, ← EReal.coe_sub]
  congr 1
  generalize b - mu = d
  induction s using EReal.rec with
  | coe s => rw [← EReal.coe_mul, ← EReal.coe_mul, ← EReal.coe_add, ← EReal.coe_add, ← EReal.coe_mul, add_mul]
  | bot =>
    rw [EReal.bot_add]
    rcases lt_trichotomy a 0 with h | rfl | h
    · rw [EReal.bot_mul_coe_of_neg h, ← EReal.coe_mul, EReal.top_add_coe]
    · simp
    · rw [EReal.bot_mul_coe_of_pos h, EReal.bot_add]
  | top =>
    rw [EReal.top_add_coe]
    rcases lt_trichotomy a 0 with h | rfl | h
    · rw [EReal.top_mul_coe_of_neg h, EReal.bot_add]
    · simp
    · rw [EReal.top_mul_coe_of_pos h, ← EReal.coe_mul, EReal.top_add_coe]

/-- The small number under the root is real and positive. -/
theorem eps_real : ∃ r : ℝ, 0 < r ∧ Ideal.ofBits .f32 0x38D1B717#32 = r := by
  refine ⟨_, ?_, by simp [Ideal.ofBits, Ideal.ieee]; rfl⟩
  positivity

/-- The factor is a real number. -/
theorem scale_real (g v : EReal) (hg : ∃ r : ℝ, g = r) (hv : 0 ≤ v) : ∃ r : ℝ, KernelIdeal.Conv.scale g v = r := by
  obtain ⟨g, rfl⟩ := hg
  obtain ⟨e, he, e'⟩ := eps_real
  unfold KernelIdeal.Conv.scale
  rw [e']
  induction v using EReal.rec with
  | bot => simp at hv
  | top => exact ⟨0, by rw [EReal.top_add_coe]; simp [Ideal.div]⟩
  | coe v =>
    have hv : 0 ≤ v := by exact_mod_cast hv
    have hp : 0 < v + e := by linarith
    rw [← EReal.coe_add, Ideal.sqrt_coe, if_neg (not_lt.2 hp.le), Ideal.div_coe (Real.sqrt_pos.2 hp).ne']
    exact ⟨_, (EReal.coe_mul _ _).symm⟩

theorem sum_eq (x : Fin 8 → Fin 32768 → Fin 64 → EReal) (w : Fin 64 → Fin 64 → Fin 3 → Fin 3 → Fin 3 → EReal)
    (b : Fin 8) (a y z : ℕ) (o : Fin 64) :
    ReferenceIdeal.Conv.sum27 (KernelIdeal.Conv.tap x w b a y z o) = KernelIdeal.Conv.acc x w b a y z o := by
  unfold ReferenceIdeal.Conv.sum27 KernelIdeal.Conv.acc KernelIdeal.Conv.taps
  simp only [zero_add, add_assoc]

/-- The reference's value at one element, under the precondition. -/
theorem value_apply (x : FVec Ideal S8x32768x64 .f32) (w : FVec Ideal S64x64x3x3x3 .f32) (b g be mu v : FVec Ideal S64 .f32)
    (h : @Cert.Pre_stats.fn Cert.Pre_stats.Gen.facts Ideal _ x w b g be mu v = fun _ => 1#1) (n : Fin 8) (r : Fin 32768) (o : Fin 64) :
    ReferenceIdeal.Conv.value x w b g be mu v (ix3 n r o)
      = KernelIdeal.Conv.leaky (KernelIdeal.Conv.acc (fun n r c => x (ix3 n r c)) (fun o c s t u => w (ix5 o c s t u)) n (r.val / 1024) (r.val % 1024 / 32) (r.val % 32) o
          * KernelIdeal.Conv.scale (g (ix1 o)) (v (ix1 o))
        + ((b (ix1 o) - mu (ix1 o)) * KernelIdeal.Conv.scale (g (ix1 o)) (v (ix1 o)) + be (ix1 o))) := by
  obtain ⟨hb, hg, hm, hv⟩ := stats_read x w b g be mu v h o
  unfold ReferenceIdeal.Conv.value
  rw [ReferenceIdeal.Conv.tail_apply, ReferenceIdeal.Conv.normal_apply, ReferenceIdeal.Conv.total_apply, shift_eq _ _ _ _ _ (scale_real _ _ hg hv) hb hm,
    ← sum_eq]
  simp only [ReferenceIdeal.Conv.tapTerm_apply]

end Cert.Equation
end
-- ==== Proof.Corners.lean ====
module

public import proofs.«01_k».proof.Proof.Gen.Kernel2Ideal.Frame
public import proofs.«01_k».proof.Proof.Gen.Kernel2Ideal.Skeleton
public import Idealize.ShloMosaic.Lib.Pipeline.Frame
public import Idealize.ShloMosaic.Lib.Pipeline.ReadBack
public import Idealize.ShloMosaic.Lib.Exec
public import Idealize.ShloMosaic.Lib.Tactic
public import Idealize.ShloMosaic.Lib.Transfers
public import Idealize.ShloMosaic.Lib.Pointwise
public import Idealize.ShloMosaic.Lib.WritesUnit

@[expose] public section

set_option maxRecDepth 16384

noncomputable section

namespace Cert.Kernel2Ideal.Interp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg2 : Memref sig .tc .vmem S1x1x1024 .i32) (harg2 : arg2.IsWhole) (arg3 : Memref sig .tc .vmem S1x1024x8 .f32) (harg3 : arg3.IsWhole)
  (arg4 : Memref sig .tc .vmem S1x33832x1x64 .f32) (harg4 : arg4.IsWhole) (arg5 : Memref sig .tc .vmem S1x1024x64 .f32) (harg5 : arg5.IsWhole)
  (arg6 : Memref sig .tc .vmem S8192x1x64 .f32) (harg6 : arg6.IsWhole) (arg7 : Memref sig .tc .smem S1x1x1024 .i32) (harg7 : arg7.IsWhole)
  (arg8 : DmaSems sig S_)

/-- A memref's buffer on core `c`, held whole at the contents `f`. -/
abbrev pt {sp : Space} {S : Shape} {e : EltTy} (M : Memref sig .tc sp S e) (f : BufTy.Contents (Elt F) M.view.ty) : sProp 𝕄 :=
  M.view.loc (c : Thread nD τ) ↦[M.view.set]{fullShare} f

/-- How far the eight corners of a cell lie from its first one: corner `4·dx + 2·dy + dz` is `1024·dx + 32·dy + dz` voxels on. -/
def corner (j : ℕ) : ℕ := 1024 * (j / 4) + 32 * (j / 2 % 2) + j % 2

/-- The row of the padded grid that corner `j` of the cell at voxel `w` is read from. -/
def rowOf (w : BitVec 32) (j : ℕ) : Fin 33832 := ⟨(w.toNat + corner j) % 33832, Nat.mod_lt _ (by decide)⟩

/-- What the loop leaves in the scratch: row `1024·j + p` is the grid's row at corner `j` of point `p`'s cell. -/
def corners (g : S1x33832x1x64.Idx → Elt F .f32) (b : S1x1x1024.Idx → Elt F .i32) (y : S8192x1x64.Idx) : Elt F .f32 :=
  g (ix4 0 (rowOf (b (ix3 0 0 ⟨(y 0).val % 1024, Nat.mod_lt _ (by decide)⟩)) ((y 0).val / 1024)) 0 (y 2))

/-- The scratch agrees with `corners` on the rows of `A`. -/
def Agree (g : S1x33832x1x64.Idx → Elt F .f32) (b : S1x1x1024.Idx → Elt F .i32) (A : ℕ → Prop) (f : BufTy.Contents (Elt F) arg6.view.ty) : Prop :=
  ∀ y : S8192x1x64.Idx, A (y 0).val → arg6.view.read (Elt F) f y = corners g b y

theorem corner_lt (j : Fin 8) : corner j.val ≤ 1057 := by revert j; decide

theorem addi_toNat (w : BitVec 32) (h : w.toNat < 32768) (j : Fin 8) :
    (Scalar.addi w (BitVec.ofNat 32 (corner j.val))).toNat = w.toNat + corner j.val := by
  have := corner_lt j
  show (w + BitVec.ofNat 32 (corner j.val)).toNat = _
  rw [BitVec.toNat_add, BitVec.toNat_ofNat]; omega

/-- A loaded row as the row that is stored. -/
theorem pay_apply (v : Vec F S1x1x1x64 .f32) (l : Fin 64) : k0_pay37 v (ix3 0 0 l) = v (ix4 0 0 0 l) := by
  unfold k0_pay37
  rw [shapeCast_comp]
  refine shapeCast_apply _ _ _ _ ?_
  rw [Shape.rowMajor_val_four, Shape.rowMajor_val_three]
  rfl

/-- Row `ρ` written with what `corners` has there: one more row agrees. -/
theorem agree_cons {g : S1x33832x1x64.Idx → Elt F .f32} {b : S1x1x1024.Idx → Elt F .i32} {A : ℕ → Prop} {f : BufTy.Contents (Elt F) arg6.view.ty}
    {L : List (View.Piece (Elt F) S8192x1x64 .f32)} {off : Fin 3 → ℕ} {inb : ∀ a, off a + S1x1x64.size a ≤ S8192x1x64.size a}
    {offg : Fin 4 → ℕ} {inbg : ∀ a, offg a + S1x1x1x64.size a ≤ S1x33832x1x64.size a} {f4 : BufTy.Contents (Elt F) arg4.view.ty}
    (j : Fin 8) (p : Fin 1024) (hoff : off = ![1024 * j.val + p.val, 0, 0])
    (hb : (b (ix3 0 0 p)).toNat < 32768)
    (hoffg : offg = ![0, (b (ix3 0 0 p)).toNat + corner j.val, 0, 0])
    (hg : arg4.view.read (Elt F) f4 = g)
    (hL : Agree arg6 g b A (arg6.view.writes (Elt F) f L)) :
    Agree arg6 g b (fun r => r = 1024 * j.val + p.val ∨ A r) (arg6.view.writes (Elt F) f
      (⟨Rect.unit (s := S8192x1x64) off S1x1x64.size inb,
        k0_pay37 (arg4.view.readAt (Elt F) (Rect.unit (s := S1x33832x1x64) offg S1x1x1x64.size inbg).toLoadRect f4)⟩ :: L)) := by
  intro y hy
  have hc := corner_lt j
  by_cases hr : (y 0).val = 1024 * j.val + p.val
  · rw [View.read_writes_cons_unit_of_mem (x := ix3 0 0 (y 2)) arg6.view f inb _ L y hoff (by
      intro a; fin_cases a
      · simpa using hr
      · have : (y 1).val < 1 := (y 1).isLt
        show (y 1).val = 0 + 0; omega
      · show (y 2).val = 0 + (y 2).val; omega)]
    subst hoffg hg
    unfold corners
    have hm : (⟨(y 0).val % 1024, Nat.mod_lt _ (by decide)⟩ : Fin 1024) = p := Fin.ext (by simp only [hr]; omega)
    have hd : (y 0).val / 1024 = j.val := by omega
    rw [hm, hd]
    rw [pay_apply _ (y 2), View.readAt_apply]
    refine congrArg _ (funext fun a => Fin.ext ?_)
    fin_cases a
    · rfl
    · show (b (ix3 0 0 p)).toNat + corner j.val + 1 * 0 = ((b (ix3 0 0 p)).toNat + corner j.val) % 33832
      omega
    · rfl
    · show 0 + 1 * (y 2).val = (y 2).val; omega
  · have hA : A (y 0).val := hy.resolve_left hr
    rw [View.read_writes_cons_unit_of_not_mem (a := 0) arg6.view f inb _ L y hoff (by
      show (y 0).val < 1024 * j.val + p.val ∨ 1024 * j.val + p.val + 1 ≤ (y 0).val; omega)]
    exact hL y hA

/-- The eight rows of one point written, one for each corner. -/
theorem agree_point {g : S1x33832x1x64.Idx → Elt F .f32} {b : S1x1x1024.Idx → Elt F .i32} {A : ℕ → Prop} {f : BufTy.Contents (Elt F) arg6.view.ty}
    {L : List (View.Piece (Elt F) S8192x1x64 .f32)} {f4 : BufTy.Contents (Elt F) arg4.view.ty}
    (p : Fin 1024) (off : BitVec 32 → Fin 3 → ℕ) (inb : ∀ j : Fin 8, ∀ a, off (BitVec.ofNat 32 (1024 * j.val)) a + S1x1x64.size a ≤ S8192x1x64.size a)
    (offg : BitVec 32 → Fin 4 → ℕ) (inbg : ∀ j : Fin 8, ∀ a, offg (BitVec.ofNat 32 (corner j.val)) a + S1x1x1x64.size a ≤ S1x33832x1x64.size a)
    (hoff : ∀ j : Fin 8, off (BitVec.ofNat 32 (1024 * j.val)) = ![1024 * j.val + p.val, 0, 0])
    (hb : (b (ix3 0 0 p)).toNat < 32768)
    (hoffg : ∀ j : Fin 8, offg (BitVec.ofNat 32 (corner j.val)) = ![0, (b (ix3 0 0 p)).toNat + corner j.val, 0, 0])
    (hg : arg4.view.read (Elt F) f4 = g)
    (hL : Agree arg6 g b A (arg6.view.writes (Elt F) f L)) :
    Agree arg6 g b (fun r => r % 1024 = p.val ∨ A r) (arg6.view.writes (Elt F) f
      (((List.finRange 8).reverse.map fun j => (⟨Rect.unit (s := S8192x1x64) (off (BitVec.ofNat 32 (1024 * j.val))) S1x1x64.size (inb j),
        k0_pay37 (arg4.view.readAt (Elt F) (Rect.unit (s := S1x33832x1x64) (offg (BitVec.ofNat 32 (corner j.val))) S1x1x1x64.size (inbg j)).toLoadRect f4)⟩ :
          View.Piece (Elt F) S8192x1x64 .f32)) ++ L)) := by
  have step := fun (j : Fin 8) {A : ℕ → Prop} {L : List (View.Piece (Elt F) S8192x1x64 .f32)} =>
    agree_cons arg4 arg6 (A := A) (L := L) (f := f) (inb := inb j) (inbg := inbg j) j p (hoff j) hb (hoffg j) hg
  have key := step 7 (step 6 (step 5 (step 4 (step 3 (step 2 (step 1 (step 0 hL)))))))
  intro y hy
  refine key y ?_
  have : (y 0).val < 8192 := (y 0).isLt
  rcases hy with hy | hy
  · simp only [Fin.isValue, Fin.val_zero, Fin.val_one]
    have h2 : ((2 : Fin 8)).val = 2 := rfl
    omega
  · simp only [hy, or_true]

/-- The word a trip reads for its point. -/
theorem word_at (f7 : BufTy.Contents (Elt F) arg7.view.ty) {off : Fin 3 → ℕ} {inb : ∀ a, off a + S1x1x1.size a ≤ S1x1x1024.size a} (p : Fin 1024)
    (h : off = ![0, 0, p.val]) :
    arg7.view.readAt (Elt F) (Rect.unit (s := S1x1x1024) off S1x1x1.size inb).toLoadRect f7 (Shape.Idx.first (numel1_S1x1x1.symm ▸ Nat.one_pos))
      = arg7.view.read (Elt F) f7 (ix3 0 0 p) := by
  subst h
  rw [View.readAt_apply]
  refine congrArg _ (funext fun a => Fin.ext ?_)
  fin_cases a <;> rfl

/-- The point that trip `k` treats at turn `t`. -/
def pt4 (k : Fin k0_t1_loop.trips) (t : Fin 4) : Fin 1024 := ⟨4 * k.val + t.val, by have := k.isLt; have : k0_t1_loop.trips ≤ 256 := k0_t1_abs.2.1; omega⟩

theorem off3_eq (k : Fin k0_t1_loop.trips) (j : Fin 8) : k0_off3 k (BitVec.ofNat 32 (1024 * j.val)) = ![1024 * j.val + (pt4 k 0).val, 0, 0] := by
  revert k j; decide +kernel
theorem off6_eq (k : Fin k0_t1_loop.trips) (j : Fin 8) : k0_off6 k (BitVec.ofNat 32 (1024 * j.val)) = ![1024 * j.val + (pt4 k 1).val, 0, 0] := by
  revert k j; decide +kernel
theorem off9_eq (k : Fin k0_t1_loop.trips) (j : Fin 8) : k0_off9 k (BitVec.ofNat 32 (1024 * j.val)) = ![1024 * j.val + (pt4 k 2).val, 0, 0] := by
  revert k j; decide +kernel
theorem off12_eq (k : Fin k0_t1_loop.trips) (j : Fin 8) : k0_off12 k (BitVec.ofNat 32 (1024 * j.val)) = ![1024 * j.val + (pt4 k 3).val, 0, 0] := by
  revert k j; decide +kernel
theorem off1_eq (k : Fin k0_t1_loop.trips) : k0_off1 k = ![0, 0, (pt4 k 0).val] := by revert k; decide +kernel
theorem off4_eq (k : Fin k0_t1_loop.trips) : k0_off4 k = ![0, 0, (pt4 k 1).val] := by revert k; decide +kernel
theorem off7_eq (k : Fin k0_t1_loop.trips) : k0_off7 k = ![0, 0, (pt4 k 2).val] := by revert k; decide +kernel
theorem off10_eq (k : Fin k0_t1_loop.trips) : k0_off10 k = ![0, 0, (pt4 k 3).val] := by revert k; decide +kernel

/-- A row of the scratch lies in the scratch. -/
theorem row_inb (j : Fin 8) (p : Fin 1024) : ∀ a, ![1024 * j.val + p.val, 0, 0] a + S1x1x64.size a ≤ S8192x1x64.size a := by
  intro a
  have := j.isLt
  have := p.isLt
  fin_cases a
  · show 1024 * j.val + p.val + 1 ≤ 8192; omega
  · show 0 + 1 ≤ 1; omega
  · show 0 + 64 ≤ 64; omega

/-- A word's row offset, from the sum of the word and the corner's distance. -/
theorem offg_eq {offg : BitVec 32 → BitVec 32 → Fin 4 → ℕ} (h : ∀ w o, offg w o = ![0, (Scalar.addi w o).toNat, 0, 0])
    (w : BitVec 32) (hw : w.toNat < 32768) (j : Fin 8) : offg w (BitVec.ofNat 32 (corner j.val)) = ![0, w.toNat + corner j.val, 0, 0] := by
  rw [h, addi_toNat w hw j]

/-- A voxel number leaves room for its eight corners in the padded grid. -/
theorem chk_of {offg : BitVec 32 → BitVec 32 → Fin 4 → ℕ} (h : ∀ w o, offg w o = ![0, (Scalar.addi w o).toNat, 0, 0])
    (at_ : Fin 8 → BitVec 32) (hat : ∀ j, at_ j = BitVec.ofNat 32 (corner j.val)) (w : BitVec 32) (hw : w.toNat < 32768) :
    ∀ r : Fin 8, ∀ a, offg w (at_ r) a + S1x1x1x64.size a ≤ S1x33832x1x64.size a := by
  intro r a
  have := corner_lt r
  rw [hat r, offg_eq h w hw r]
  fin_cases a
  · show 0 + 1 ≤ 1; omega
  · show w.toNat + corner r.val + 1 ≤ 33832; omega
  · show 0 + 1 ≤ 1; omega
  · show 0 + 64 ≤ 64; omega

theorem chk1_of (w : BitVec 32) (hw : w.toNat < 32768) : k0_chk1 w := chk_of (offg := k0_off2) (fun _ _ => rfl) k0_off2_at (by decide) w hw
theorem chk2_of (w : BitVec 32) (hw : w.toNat < 32768) : k0_chk2 w := chk_of (offg := k0_off5) (fun _ _ => rfl) k0_off5_at (by decide) w hw
theorem chk3_of (w : BitVec 32) (hw : w.toNat < 32768) : k0_chk3 w := chk_of (offg := k0_off8) (fun _ _ => rfl) k0_off8_at (by decide) w hw
theorem chk4_of (w : BitVec 32) (hw : w.toNat < 32768) : k0_chk4 w := chk_of (offg := k0_off11) (fun _ _ => rfl) k0_off11_at (by decide) w hw

/-- The rows done before trip `k`: those of the points below `4·k`. -/
abbrev done (k : ℕ) (r : ℕ) : Prop := r % 1024 < 4 * k

/-- One trip fills the eight rows of each of its four points. -/
theorem trip (f4 : BufTy.Contents (Elt F) arg4.view.ty) (f7 : BufTy.Contents (Elt F) arg7.view.ty) (f6 : BufTy.Contents (Elt F) arg6.view.ty)
    (hb : ∀ p : Fin 1024, (arg7.view.read (Elt F) f7 (ix3 0 0 p)).toNat < 32768)
    (k : Fin k0_t1_loop.trips)
    (hL : Agree arg6 (arg4.view.read (Elt F) f4) (arg7.view.read (Elt F) f7) (done k.val) f6) :
    iprop(pt c arg4 f4 ∗ pt c arg7 f7 ∗ pt c arg6 f6)
      ⊢ wp frame (wpE (defs₀ (F := F)) Variants.none (c : Thread nD τ) none) Set.univ
          (k0_t1_body (F := F) i arg2 harg2 arg3 harg3 arg4 harg4 arg5 harg5 arg6 harg6 arg7 harg7 arg8 k PUnit.unit)
          (fun _ => iprop(pt c arg4 f4 ∗ pt c arg7 f7 ∗ ∃ f', pt c arg6 f' ∗ ⌜Agree arg6 (arg4.view.read (Elt F) f4) (arg7.view.read (Elt F) f7) (done (k.val + 1)) f'⌝)) := by
  have hk : k.val < 256 := Nat.lt_of_lt_of_le k.isLt k0_t1_abs.2.1
  have e1 := word_at arg7 f7 (inb := k0_off1_inb k) _ (off1_eq k)
  have e2 := word_at arg7 f7 (inb := k0_off4_inb k) _ (off4_eq k)
  have e3 := word_at arg7 f7 (inb := k0_off7_inb k) _ (off7_eq k)
  have e4 := word_at arg7 f7 (inb := k0_off10_inb k) _ (off10_eq k)
  have k0_hw1 := chk1_of _ (e1 ▸ hb (pt4 k 0))
  have k0_hw2 := chk2_of _ (e2 ▸ hb (pt4 k 1))
  have k0_hw3 := chk3_of _ (e3 ▸ hb (pt4 k 2))
  have k0_hw4 := chk4_of _ (e4 ▸ hb (pt4 k 3))
  unfold k0_t1_body
  iintro ⟨HR4, HR7, HW6⟩
  sl_exec
  sl_step
  isplitl [HR4]; · iexact HR4
  isplitl [HR7]; · iexact HR7
  iexists _; isplitl [HW6]; · iexact HW6
  ipureintro
  have key := agree_point arg4 arg6 (pt4 k 3) (k0_off12 k) (fun j => by rw [off12_eq]; exact row_inb _ _) (k0_off11 _) (fun j => chk_of (offg := k0_off11) (fun _ _ => rfl) _ (fun _ => rfl) _ (e4 ▸ hb (pt4 k 3)) j) (off12_eq k) (hb _) (fun j => by rw [offg_eq (offg := k0_off11) (fun _ _ => rfl) _ (e4 ▸ hb (pt4 k 3)) j, e4]) rfl
    (agree_point arg4 arg6 (pt4 k 2) (k0_off9 k) (fun j => by rw [off9_eq]; exact row_inb _ _) (k0_off8 _) (fun j => chk_of (offg := k0_off8) (fun _ _ => rfl) _ (fun _ => rfl) _ (e3 ▸ hb (pt4 k 2)) j) (off9_eq k) (hb _) (fun j => by rw [offg_eq (offg := k0_off8) (fun _ _ => rfl) _ (e3 ▸ hb (pt4 k 2)) j, e3]) rfl
    (agree_point arg4 arg6 (pt4 k 1) (k0_off6 k) (fun j => by rw [off6_eq]; exact row_inb _ _) (k0_off5 _) (fun j => chk_of (offg := k0_off5) (fun _ _ => rfl) _ (fun _ => rfl) _ (e2 ▸ hb (pt4 k 1)) j) (off6_eq k) (hb _) (fun j => by rw [offg_eq (offg := k0_off5) (fun _ _ => rfl) _ (e2 ▸ hb (pt4 k 1)) j, e2]) rfl
    (agree_point arg4 arg6 (pt4 k 0) (k0_off3 k) (fun j => by rw [off3_eq]; exact row_inb _ _) (k0_off2 _) (fun j => chk_of (offg := k0_off2) (fun _ _ => rfl) _ (fun _ => rfl) _ (e1 ▸ hb (pt4 k 0)) j) (off3_eq k) (hb _) (fun j => by rw [offg_eq (offg := k0_off2) (fun _ _ => rfl) _ (e1 ▸ hb (pt4 k 0)) j, e1]) rfl
    (L := []) hL)))
  intro y hy
  refine Eq.trans ?_ (key y ?_)
  · rfl
  · have h0 : (pt4 k 0).val = 4 * k.val + 0 := rfl
    have h1 : (pt4 k 1).val = 4 * k.val + 1 := rfl
    have h2 : (pt4 k 2).val = 4 * k.val + 2 := rfl
    have h3 : (pt4 k 3).val = 4 * k.val + 3 := rfl
    rw [h0, h1, h2, h3]
    unfold done at hy ⊢
    omega

end Cert.Kernel2Ideal.Interp

end
-- ==== Proof.Body.lean ====
module

public import proofs.«01_k».proof.Proof.Corners

@[expose] public section

set_option maxRecDepth 16384

noncomputable section

namespace Cert.Kernel2Ideal.Interp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg2 : Memref sig .tc .vmem S1x1x1024 .i32) (harg2 : arg2.IsWhole) (arg3 : Memref sig .tc .vmem S1x1024x8 .f32) (harg3 : arg3.IsWhole)
  (arg4 : Memref sig .tc .vmem S1x33832x1x64 .f32) (harg4 : arg4.IsWhole) (arg5 : Memref sig .tc .vmem S1x1024x64 .f32) (harg5 : arg5.IsWhole)
  (arg6 : Memref sig .tc .vmem S8192x1x64 .f32) (harg6 : arg6.IsWhole) (arg7 : Memref sig .tc .smem S1x1x1024 .i32) (harg7 : arg7.IsWhole)
  (arg8 : DmaSems sig S_)

/-- The gathering loop's invariant: before trip `k` the rows of the points below `4·k` are filled. -/
def filling (f4 : BufTy.Contents (Elt F) arg4.view.ty) (f7 : BufTy.Contents (Elt F) arg7.view.ty) (k : ℕ) (_ : Unit) : sProp 𝕄 :=
  iprop(pt c arg4 f4 ∗ pt c arg7 f7 ∗ (∃ f, pt c arg6 f ∗ ⌜Agree arg6 (arg4.view.read (Elt F) f4) (arg7.view.read (Elt F) f7) (done k) f⌝))

/-- The two scratch buffers, whole. -/
abbrev scG : Memref sig .tc .vmem S8192x1x64 .f32 := Memref.whole cc0_scratch0
abbrev scB : Memref sig .tc .smem S1x1x1024 .i32 := Memref.whole cc0_scratch1

/-- Corner `j`'s rows of all the points, as one slab. -/
def slab (g : S1x33832x1x64.Idx → Elt F .f32) (b : S1x1x1024.Idx → Elt F .i32) (j : Fin 8) : Vec F S1024x1x64 .f32 := fun x =>
  g (ix4 0 (rowOf (b (ix3 0 0 ⟨(x 0).val, (x 0).isLt⟩)) j.val) 0 (x 2))

/-- One block of the result: the corners' rows, each times its weight, added up corner after corner. -/
def blockOut (b : S1x1x1024.Idx → Elt F .i32) (w : S1x1024x8.Idx → Elt F .f32) (g : S1x33832x1x64.Idx → Elt F .f32) : S1x1024x64.Idx → Elt F .f32 :=
  k0_pay1 (k0_pay38 w) (k0_pay39 w (slab g b 0) (slab g b 1) (slab g b 2) (slab g b 3)) (k0_pay40 (slab g b 4)) (k0_pay41 w)
    (slab g b 5) (slab g b 6) (slab g b 7)

/-- `blockOut` from any spelling of the slabs. -/
theorem blockOut_of {g : S1x33832x1x64.Idx → Elt F .f32} {b : S1x1x1024.Idx → Elt F .i32} {w w' : Vec F S1x1024x8 .f32} {v0 v1 v2 v3 v4 v5 v6 v7 : Vec F S1024x1x64 .f32}
    (hw : w' = w) (h0 : v0 = slab g b 0) (h1 : v1 = slab g b 1) (h2 : v2 = slab g b 2) (h3 : v3 = slab g b 3) (h4 : v4 = slab g b 4)
    (h5 : v5 = slab g b 5) (h6 : v6 = slab g b 6) (h7 : v7 = slab g b 7) :
    k0_pay1 (k0_pay38 w') (k0_pay39 w' v0 v1 v2 v3) (k0_pay40 v4) (k0_pay41 w') v5 v6 v7 = blockOut b w g := by
  subst hw h0 h1 h2 h3 h4 h5 h6 h7; rfl

/-- A slab loaded from the filled scratch. -/
theorem slab_read {g : S1x33832x1x64.Idx → Elt F .f32} {b : S1x1x1024.Idx → Elt F .i32} {f6 : BufTy.Contents (Elt F) arg6.view.ty}
    (h6 : Agree arg6 g b (done 256) f6) (j : Fin 8) {off : Fin 3 → ℕ} {inb : ∀ a, off a + S1024x1x64.size a ≤ S8192x1x64.size a}
    (h : off = ![1024 * j.val, 0, 0]) :
    arg6.view.readAt (Elt F) (Rect.unit (s := S8192x1x64) off S1024x1x64.size inb).toLoadRect f6 = slab g b j := by
  subst h
  funext x
  have hx : (x 0).val < 1024 := (x 0).isLt
  have hj := j.isLt
  have e0 : (((Rect.unit (s := S8192x1x64) ![1024 * j.val, 0, 0] S1024x1x64.size inb).toLoadRect.idx x) 0).val = 1024 * j.val + (x 0).val := by
    show 1024 * j.val + 1 * (x 0).val = _; omega
  have hdone : done 256 (((Rect.unit (s := S8192x1x64) ![1024 * j.val, 0, 0] S1024x1x64.size inb).toLoadRect.idx x) 0).val := by
    rw [e0]; unfold done; omega
  rw [View.readAt_apply, h6 _ hdone]
  unfold corners slab
  have hm : (⟨(((Rect.unit (s := S8192x1x64) ![1024 * j.val, 0, 0] S1024x1x64.size inb).toLoadRect.idx x) 0).val % 1024, Nat.mod_lt _ (by decide)⟩ : Fin 1024)
      = ⟨(x 0).val, hx⟩ := Fin.ext (by
        show (((Rect.unit (s := S8192x1x64) ![1024 * j.val, 0, 0] S1024x1x64.size inb).toLoadRect.idx x) 0).val % 1024 = (x 0).val
        rw [e0, Nat.mul_add_mod]; exact Nat.mod_eq_of_lt hx)
  have hd : (((Rect.unit (s := S8192x1x64) ![1024 * j.val, 0, 0] S1024x1x64.size inb).toLoadRect.idx x) 0).val / 1024 = j.val := by
    rw [e0, Nat.mul_add_div (by decide), Nat.div_eq_of_lt hx, Nat.add_zero]
  rw [hm, hd]
  have h2 : ((Rect.unit (s := S8192x1x64) ![1024 * j.val, 0, 0] S1024x1x64.size inb).toLoadRect.idx x) 2 = x 2 := Fin.ext (by
    show 0 + 1 * (x 2).val = _; omega)
  rw [h2]

/-- The weights loaded whole. -/
theorem weights_read (f3 : BufTy.Contents (Elt F) arg3.view.ty) {inb : ∀ a, (![0, 0, 0] : Fin 3 → ℕ) a + S1x1024x8.size a ≤ S1x1024x8.size a} :
    arg3.view.readAt (Elt F) (Rect.unit (s := S1x1024x8) ![0, 0, 0] S1x1024x8.size inb).toLoadRect f3 = arg3.view.read (Elt F) f3 := by
  funext x
  rw [View.readAt_apply]
  refine congrArg _ (funext fun a => Fin.ext ?_)
  show ![0, 0, 0] a + 1 * (x a).val = _
  fin_cases a <;> (show 0 + 1 * _ = _; omega)

/-- The result's block written whole. -/
theorem block_write (f5 : BufTy.Contents (Elt F) arg5.view.ty) {inb : ∀ a, (![0, 0, 0] : Fin 3 → ℕ) a + S1x1024x64.size a ≤ S1x1024x64.size a}
    (w : S1x1024x64.Idx → Elt F .f32) :
    arg5.view.read (Elt F) (arg5.view.writes (Elt F) f5 [⟨Rect.unit (s := S1x1024x64) ![0, 0, 0] S1x1024x64.size inb, w⟩]) = w := by
  funext y
  exact View.read_writes_cons_unit_of_mem (x := y) arg5.view f5 inb w [] y rfl (by
    intro a; fin_cases a <;> exact (Nat.zero_add _).symm)

/-- The kernel's body at one point: it leaves `blockOut` of the three input blocks in the result's block. -/
theorem kernelRun (x2 : S1x1x1024.Idx → Elt F .i32) (x3 : S1x1024x8.Idx → Elt F .f32) (x4 : S1x33832x1x64.Idx → Elt F .f32)
    (hx : ∀ p : Fin 1024, (x2 (ix3 0 0 p)).toNat < 32768) (W : Waits sig Unit) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) scG fullShare d) ∗ (∃ d, owns (c : Thread nD τ) scB fullShare d)
        ∗ semVal ((c : Thread nD τ), SemLoc.dma 8) 0 ∗ owes (c : Thread nD τ) 0 W
        ∗ (iprop(owns (c : Thread nD τ) arg2 fullShare x2 ∗ owns (c : Thread nD τ) arg3 fullShare x3 ∗ owns (c : Thread nD τ) arg4 fullShare x4
              ∗ owns (c : Thread nD τ) arg5 fullShare (blockOut x2 x3 x4) ∗ (∃ d, owns (c : Thread nD τ) scG fullShare d) ∗ (∃ d, owns (c : Thread nD τ) scB fullShare d)
              ∗ semVal ((c : Thread nD τ), SemLoc.dma 8) 0 ∗ ∃ W', owes (c : Thread nD τ) 0 W') -∗ K ⟨⟩))
      ⊢ wp frame (wpE (defs₀ (F := F)) Variants.none c none) Set.univ
          (cc0__k3_body i arg2 harg2 arg3 harg3 arg4 harg4 arg5 harg5 scG (Memref.isWhole_whole _) scB (Memref.isWhole_whole _) cc0_scratch2) K := by
  simp only [cc0__k3_body_eq_skeleton]; unfold cc0__k3_body_skel
  simp only [k0_part10_eq_skeleton]; unfold k0_part10_skel
  unfold owns
  iintro ⟨⟨%f2, %h2, H2⟩, ⟨%f3, %h3, H3⟩, ⟨%f4, %h4, H4⟩, ⟨%d5, %f5, -, H5⟩, ⟨%dg, %fg, -, HG⟩, ⟨%db, %fb, -, HB⟩, Hq, HW, Hk⟩
  sl_exec
  have hb : ∀ p : Fin 1024, (scB.view.read (Elt F) (scB.view.writes (Elt F) fb [⟨Rect.whole S1x1x1024, kernelRun.sl.dma0 c arg2 f2⟩]) (ix3 0 0 p)).toNat < 32768 := by
    intro p
    rw [View.read_writes_whole]
    exact (congrArg (fun v : S1x1x1024.Idx → Elt F .i32 => (v (ix3 0 0 p)).toNat) h2).trans_lt (hx p)
  repeat rw [bind_assoc]
  sl_for (filling c arg4 scG scB f4 (scB.view.writes (Elt F) fb [⟨Rect.whole S1x1x1024, kernelRun.sl.dma0 c arg2 f2⟩])) $$ [H4 HB HG]
  case region =>
    intro k u
    unfold filling
    iintro ⟨H4, H7, ⟨%f6, H6, %h6⟩⟩
    iapply (trip c i arg2 harg2 arg3 harg3 arg4 harg4 arg5 harg5 scG (Memref.isWhole_whole _) scB (Memref.isWhole_whole _) cc0_scratch2 f4 _ f6 hb k h6)
    isplitl [H4]; · iexact H4
    isplitl [H7]; · iexact H7
    iexact H6
  · unfold filling
    isplitl [H4]; · iexact H4
    isplitl [HB]; · iexact HB
    iexists _; isplitl [HG]; · iexact HG
    ipureintro; intro y hy; exact absurd hy (by unfold done; omega)
  iintro %u HI
  unfold filling
  icases HI with ⟨H4, HB, ⟨%f6, HG, %h6⟩⟩
  sl_exec
  sl_step
  have e7 : scB.view.read (Elt F) (scB.view.writes (Elt F) fb [⟨Rect.whole S1x1x1024, kernelRun.sl.dma0 c arg2 f2⟩]) = x2 := by
    rw [View.read_writes_whole]; exact h2
  have h6 : Agree scG x4 x2 (done 256) f6 := by rw [← h4, ← e7]; exact h6
  iapply Hk
  isplitl [H2]
  · iexists f2; isplitr; swap; · iexact H2
    ipureintro; exact h2
  isplitl [H3]
  · iexists f3; isplitr; swap; · iexact H3
    ipureintro; exact h3
  isplitl [H4]
  · iexists f4; isplitr; swap; · iexact H4
    ipureintro; exact h4
  isplitl [H5]
  · iexists _; isplitr; swap; · iexact H5
    ipureintro
    refine (block_write arg5 f5 _).trans ?_
    dsimp only
    refine blockOut_of ?_ ?_ ?_ ?_ ?_ ?_ ?_ ?_ ?_
    · exact (weights_read arg3 f3).trans h3
    · exact slab_read scG h6 0 rfl
    · exact slab_read scG h6 1 rfl
    · exact slab_read scG h6 2 rfl
    · exact slab_read scG h6 3 rfl
    · exact slab_read scG h6 4 rfl
    · exact slab_read scG h6 5 rfl
    · exact slab_read scG h6 6 rfl
    · exact slab_read scG h6 7 rfl
  isplitl [HG]
  · iexists _, _; isplitr; swap; · iexact HG
    ipureintro; rfl
  isplitl [HB]
  · iexists _, _; isplitr; swap; · iexact HB
    ipureintro; rfl
  isplitl [Hq]; · iexact Hq
  iexists _; iexact HW

end Cert.Kernel2Ideal.Interp

end
-- ==== Proof.Launch.lean ====
module

public import proofs.«01_k».proof.Proof.Body

/-!
# The interpolation kernel's launch

What each grid point's body leaves in its windows, and the whole run: the result array, and the arguments unchanged.
-/

@[expose] public section

set_option maxRecDepth 16384

noncomputable section

namespace Cert.Kernel2Ideal.Interp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphore. -/
abbrev osem0 : Fin 1 → SemLoc sig := fun _ => SemLoc.dma 8

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 8) 0 := by
  rw [Pipeline.ownSems0_eq_of_list c osem0 [0] (by decide) (by decide)]; rfl

/-- The body moves no array left outside its windows. -/
def H0 : Finset (Ref sig .tc) := ∅

theorem H0_sub : H0 ⊆ Pipeline.restRefs sig spec0 := by decide

/-- What holds between points: both scratch buffers at some contents and the semaphore at zero. -/
theorem PhiD0_eq (c : Dev nD) :
    (Pipeline.ΦD osem0 spec0 H0 (V m) c : sProp 𝕄)
      = iprop(iprop((∃ d, owns (c : Thread nD τ) scG fullShare d) ∗ (∃ d, owns (c : Thread nD τ) scB fullShare d)) ∗ (∃ r, prngReg c r)
          ∗ semVal ((c : Thread nD τ), SemLoc.dma 8) 0
          ∗ (bigSep H0 (fun b => ((c : Thread nD τ).loc b) ↦{fullShare} V m c b) : sProp 𝕄)) := by
  rw [Pipeline.ΦD_eq, scopedRest0_eq, ownSems00_eq]; simp only [scG, scB, owns_whole]; try rfl

/-- The proof data: the inputs stay as fetched, the output window ends at the block the body computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rfl) t d).trans (by rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rfl) t d).trans (by rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rfl) t d).trans (by rfl)

/-- The windows' staging buffers at a point. -/
abbrev ms0 (t : Fin cfg0.N) : Memref sig .tc .vmem S1x1x1024 .i32 := win0_0.stage (cfg0.slots t 0)
abbrev ms1 (t : Fin cfg0.N) : Memref sig .tc .vmem S1x1024x8 .f32 := win0_1.stage (cfg0.slots t 1)
abbrev ms2 (t : Fin cfg0.N) : Memref sig .tc .vmem S1x33832x1x64 .f32 := win0_2.stage (cfg0.slots t 2)
abbrev ms3 (t : Fin cfg0.N) : Memref sig .tc .vmem S1x1024x64 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

/-- Every base row number that the kernel reads leaves room in the grid. -/
def Words : Prop := ∀ (c : Dev nD) (t : Fin cfg0.N) (p : Fin 1024), (iblk m c 0 t (ix3 0 0 p) : BitVec 32).toNat < 32768

variable {m} (hw : Words m)
include hw

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  iintro ⟨⟨⟨HG, HB⟩, Hg, Hq, Hh⟩, ⟨%W, %hW, HO⟩, ⟨%d0, H0⟩, ⟨%d1, H1⟩, ⟨%d2, H2⟩, ⟨%d3, H3⟩⟩
  iapply (kernelRun c (grid0.coords t) (ms0 t) _ (ms1 t) _ (ms2 t) _ (ms3 t) _ (iblk m c 0 t) (iblk m c 1 t) (iblk m c 2 t) (hw c t) W _)
  isplitl [H0]; · iexact H0
  isplitl [H1]; · iexact H1
  isplitl [H2]; · iexact H2
  isplitl [H3]; · iexists _; iexact H3
  isplitl [HG]; · iexact HG
  isplitl [HB]; · iexact HB
  isplitl [Hq]; · iexact Hq
  isplitl [HO]; · iexact HO
  iintro ⟨H0, H1, H2, H3, HG, HB, Hq, ⟨%W', HO⟩⟩
  isplitl [HG HB Hg Hq Hh]
  · isplitl [HG HB]
    · isplitl [HG]; · iexact HG
      iexact HB
    isplitl [Hg]; · iexact Hg
    isplitl [Hq]; · iexact Hq
    iexact Hh
  isplitl [HO]
  · iexists W'; isplitr; · ipureintro; exact fun _ _ => Or.inl trivial
    iexact HO
  isplitl [H0]; · iexact H0
  isplitl [H1]; · iexact H1
  isplitl [H2]; · iexact H2
  iexact H3

omit hw in
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body hw c t) rfl .rfl fun _ => .rfl

omit hw in
set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation hw c).loose) (hshare := fun c => (dats m 0 c).share_full fun _ => rfl)
    (howed := fun _ _ => rfl) (V := V m) (hmain := hmainD Variants.none) (hA := A_eq m)
    (hin := fun _ => .rfl) (hout := fun _ => .rfl)

/-- The whole run: the result array, the arguments unchanged, every counter back at zero. -/
theorem run :
    θ_run defs (onTc (τ := τ) (main (F := F))) ⟨m, fun _ => 0, ρ⟩ (fun r => (∀ c : Dev nD,
      r.2.mem ((c.tc : Thread nD τ).loc main_v3) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3,
    ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩, h.2⟩) (run_main ρ hw)

end Cert.Kernel2Ideal.Interp
end
-- ==== Proof.Words.lean ====
module

public import proofs.«01_k».proof.Proof.Launch
public import proofs.«01_k».proof.Proof.Gen.Pre_in_range
public import proofs.«01_k».proof.Proof.Gen.Pre_cells
public import Idealize.ShloMosaic.Lib.Claim
public import Idealize.ShloMosaic.Lib.ReduceAll
public import Idealize.ShloMosaic.Lib.Pipeline.ValueKit

/-!
# What the two preconditions say

The base row numbers lie in the grid, and a corner beyond the grid has weight zero.
-/

@[expose] public section

set_option maxRecDepth 16384

noncomputable section

namespace Cert.Kernel2Ideal.Interp

open Cert.Kernel2Ideal Cert.Kernel2Ideal.Gen
open Idealize.ShloMosaic Idealize.ShloMosaic.TcCoe Idealize.SL.Sem

variable {F : FTy → Type} [FloatOps F]

/-- Every base row number is a row of the grid. -/
def InRange (b : IVec S8x1x65536 32) : Prop := ∀ y, (b y).toNat < 32768

/-- A number between the two bounds, compared as signed. -/
theorem toNat_of_bounds (x : BitVec 32) (h0 : Scalar.cmpi .sge x 0#32 = 1#1) (h1 : Scalar.cmpi .slt x 32768#32 = 1#1) : x.toNat < 32768 := by
  have a : (0#32).sle x = true := by
    by_contra hn
    have : Scalar.cmpi .sge x 0#32 = BitVec.ofBool ((0#32).sle x) := rfl
    rw [this] at h0; simp [hn] at h0
  have b : x.slt 32768#32 = true := by
    by_contra hn
    have : Scalar.cmpi .slt x 32768#32 = BitVec.ofBool (x.slt 32768#32) := rfl
    rw [this] at h1; simp [hn] at h1
  rw [BitVec.sle_eq_decide] at a
  rw [BitVec.slt_eq_decide] at b
  simp only [decide_eq_true_eq] at a b
  rw [show (0#32).toInt = 0 from rfl] at a
  rw [show (32768#32).toInt = 32768 from rfl] at b
  rw [BitVec.toInt_eq_toNat_cond] at a b
  split at a <;> rename_i hh <;> simp only [hh, ↓reduceIte] at b <;> have := x.isLt <;> omega

theorem in_range_read (b : IVec S8x1x65536 32) (w : FVec F S8x8x65536 .f32) (g : FVec F S8x32768x64 .f32)
    (h : @Cert.Pre_in_range.fn Cert.Pre_in_range.Gen.facts F _ b w g = fun _ => 1#1) : InRange b := fun y => by
  have e := congrFun h (fun d => d.elim0)
  unfold Cert.Pre_in_range.fn at e
  obtain ⟨e0, e1⟩ := IntOp.andi_eq_one.1 (Host.reduce_andi_all _ _ _ _ _ e y)
  exact toNat_of_bounds (b y) e0 e1

theorem index0 : ∀ t : Fin cfg0.N, win0_0.index t = ![(grid0.coords t 0).val, 0, (grid0.coords t 1).val] :=
  (by decide +kernel : ∀ t : Fin grid0.N, _)

variable (m : (ℓ : Loc nD τ sig) → Buf (Elt F) ℓ)

/-- The words a point reads are its part of the base row numbers. -/
theorem blk0 (c : Dev nD) (t : Fin cfg0.N) (p : Fin 1024) :
    iblk m c 0 t (ix3 0 0 p) = m ((c : Thread nD τ).loc main_arg0)
      (ix3 (grid0.coords t 0 : Fin 8) 0 ((⟨(grid0.coords t 1).val * 1024 + p.val, by have := (grid0.coords t 1).isLt; change _ < 64 at this; omega⟩ : Fin 65536))) := by
  have ha : (grid0.coords t 1).val < 64 := (grid0.coords t 1).isLt
  blk_simp [iblk]
  rw [V_main_arg0]
  refine congrArg (m ((c : Thread nD τ).loc main_arg0)) ?_
  blk_ext [index0]

theorem words_of (h : ∀ c : Dev nD, InRange (m ((c : Thread nD τ).loc main_arg0))) : Words m := fun c t p => by
  rw [blk0]; exact h c _

end Cert.Kernel2Ideal.Interp
end
-- ==== Proof.Carry.lean ====
module

public import proofs.«01_k».proof.Proof.Words
public import proofs.«01_k».proof.Proof.Gen.Kernel2

/-!
# The kernel's own run

The kernel printed at machine floats is, word for word, the program of `Kernel2Ideal` at machine floats, so the run
proved at any float model is its run too.
-/

@[expose] public section

set_option maxRecDepth 16384

noncomputable section

namespace Cert.Kernel2.Interp

open Cert.Kernel2
open Idealize.ShloMosaic Idealize.ShloMosaic.TcCoe Idealize.SL.Sem Idealize.ShloMosaic.Tactic

/-- The run of the kernel at machine floats, as the frame claim states it. -/
def Runs (m : (ℓ : Loc nD τ sig) → Buf (Elt Bits) ℓ) (ρ : Dev nD → PrngReg) : Prop :=
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

end Cert.Kernel2.Interp

namespace Cert.Kernel2Ideal.Interp

open Cert.Kernel2Ideal
open Idealize.ShloMosaic Idealize.ShloMosaic.TcCoe Idealize.SL.Sem Idealize.ShloMosaic.Tactic

variable {F : FTy → Type} [FloatOps F]

/-- The run of `Kernel2Ideal` at any float model, as the frame claim states it. -/
def Runs (m : (ℓ : Loc nD τ sig) → Buf (Elt F) ℓ) (ρ : Dev nD → PrngReg) : Prop :=
  θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame (m : (ℓ : Loc nD τ sig) → Buf (Elt F) ℓ) (ρ : Dev nD → PrngReg) (h : ∀ c : Dev nD, InRange (m ((c : Thread nD τ).loc main_arg0))) : Runs m ρ :=
  (θ_run _ _ _).mono (fun _ h => ⟨fun c => (h.1 c).2, h.2⟩) (run ρ (words_of m h))

theorem runs_eq : @Cert.Kernel2.Interp.Runs = @Runs Bits _ := by
  sl_kernel_rfl

end Cert.Kernel2Ideal.Interp

namespace Cert.Kernel2.Interp

open Cert.Kernel2
open Idealize.ShloMosaic Idealize.ShloMosaic.TcCoe Idealize.SL.Sem Idealize.ShloMosaic.Tactic

theorem frame (m : (ℓ : Loc nD τ sig) → Buf (Elt Bits) ℓ) (ρ : Dev nD → PrngReg)
    (h : ∀ c : Dev nD, Cert.Kernel2Ideal.Interp.InRange (m ((c : Thread nD τ).loc main_arg0))) : Runs m ρ := by
  rw [Cert.Kernel2Ideal.Interp.runs_eq]
  exact Cert.Kernel2Ideal.Interp.frame m ρ h

end Cert.Kernel2.Interp
-- ==== Proof.Interpolated.lean ====
module

public import proofs.«01_k».proof.Proof.Words

/-!
# The interpolation kernel's result array

Each entry is zero plus the eight corners' rows times their weights, added up corner after corner.
-/

@[expose] public section

set_option maxRecDepth 16384

noncomputable section

namespace Cert.Kernel2Ideal.Interp

open Cert.Kernel2Ideal Cert.Kernel2Ideal.Gen
open Idealize.ShloMosaic Idealize.ShloMosaic.TcCoe Idealize.SL.Sem
open Idealize.ShloMosaic.Pipeline (Dat)

/-- Eight terms added up from zero, in order. -/
def sum8 (T : Fin 8 → EReal) : EReal := 0 + T 0 + T 1 + T 2 + T 3 + T 4 + T 5 + T 6 + T 7

/-- One entry of a block. -/
theorem blockOut_apply (b : S1x1x1024.Idx → Elt Ideal .i32) (w : S1x1024x8.Idx → Elt Ideal .f32) (g : S1x33832x1x64.Idx → Elt Ideal .f32)
    (p : Fin 1024) (l : Fin 64) :
    blockOut b w g (ix3 0 p l) = sum8 fun j => (g (ix4 0 (rowOf (b (ix3 0 0 p)) j.val) 0 l) : EReal) * w (ix3 0 p j) := by
  unfold blockOut sum8
  pointwise [k0_pay1, k0_pay38, k0_pay39, k0_pay40, k0_pay41, slab]

theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![(grid0.coords t 0).val, 0, 0, 0] :=
  (by decide +kernel : ∀ t : Fin grid0.N, _)
theorem index3 : ∀ t : Fin cfg0.N, win0_3.index t = ![(grid0.coords t 0).val, (grid0.coords t 1).val, 0] :=
  (by decide +kernel : ∀ t : Fin grid0.N, _)

variable (m : (ℓ : Loc nD τ sig) → Buf (Elt Ideal) ℓ) (c : Dev nD)

/-- The base row numbers, the weights and the grid, as the arguments hold them. -/
def argB (b : Fin 8) (n : Fin 65536) : BitVec 32 := m ((c : Thread nD τ).loc main_arg0) (ix3 b 0 n)
def argW (b : Fin 8) (j : Fin 8) (n : Fin 65536) : EReal := m ((c : Thread nD τ).loc main_arg1) (ix3 b j n)
def argG (b : Fin 8) (r : Fin 32768) (l : Fin 64) : EReal := m ((c : Thread nD τ).loc main_arg2) (ix3 b r l)

/-- The grid with rows added at its end, as the kernel is given it. -/
def longer (b : Fin 8) (r : Fin 33832) (l : Fin 64) : EReal := V m c main_v1 (ix4 b r 0 l)

/-- Rows added at an array's end leave its own rows where they are. -/
theorem pad_row (g : S8x32768x64.Idx → EReal) (v : S_.Idx → EReal) (b : Fin 8) (r : Fin 33832) (l : Fin 64) (h : r.val < 32768) :
    pad S8x33832x64 ![0, 0, 0] ![0, 1064, 0] ![0, 0, 0] g v Facts₀.pads_S8x32768x64_S8x33832x64_000_010640_000 Facts₀.h_S_ (ix3 b r l)
      = g (ix3 b ⟨r.val, h⟩ l) := by
  pointwise
  rw [dif_pos h]

/-- A row of the grid proper. -/
theorem longer_of_lt (b : Fin 8) (r : Fin 33832) (l : Fin 64) (h : r.val < 32768) : longer m c b r l = argG m c b ⟨r.val, h⟩ l := by
  unfold longer argG V
  simp only [hostOps0, hostOps0_1, hostOps0_2, List.flatten_cons, List.flatten_nil, List.append_nil, List.cons_append, List.nil_append]
  entry_read
  pointwise
  show pad (α := EReal) S8x33832x64 ![0, 0, 0] ![0, 1064, 0] ![0, 0, 0] (fun y => m ((c : Thread nD τ).loc main_arg2) y)
    (sitofp (F := Ideal) .f32 (constantI S_ 32 0#32)) Facts₀.pads_S8x32768x64_S8x33832x64_000_010640_000 Facts₀.h_S_ (ix3 b r l) = _
  exact pad_row _ _ b r l h

/-- The weights with the corner last, as the kernel is given them. -/
theorem weights_V (b : Fin 8) (n : Fin 65536) (j : Fin 8) : V m c main_v2 (ix3 b n j) = argW m c b j n := by
  unfold argW V
  simp only [hostOps0, hostOps0_1, hostOps0_2, List.flatten_cons, List.flatten_nil, List.append_nil, List.cons_append, List.nil_append]
  entry_read
  pointwise

/-- Point number `p` of block `a`. -/
def pointNo (a p : ℕ) (ha : a < 64) (hp : p < 1024) : Fin 65536 := ⟨a * 1024 + p, by omega⟩

theorem emb1 (t : Fin cfg0.N) (p : Fin 1024) (j : Fin 8) : (win0_1.blk t).view.emb (ix3 (0 : Fin 1) p j)
      = ix3 (grid0.coords t 0 : Fin 8) (pointNo (grid0.coords t 1).val p.val (grid0.coords t 1).isLt p.isLt) j := by
  unfold pointNo
  blk_ext [index1]

theorem read1 (W : (b : Ref sig .tc) → Buf (Elt Ideal) ((c : Thread nD τ).loc b)) (t : Fin cfg0.N) (p : Fin 1024) (j : Fin 8) :
    ((cfg0.win 1).blk t).view.read (Elt Ideal) (W (Pipeline.arrRef spec0 1)) (ix3 0 p j)
      = W main_v2 (ix3 (grid0.coords t 0 : Fin 8) (pointNo (grid0.coords t 1).val p.val (grid0.coords t 1).isLt p.isLt) j) :=
  congrArg (W main_v2) (emb1 t p j)

theorem blk1 (t : Fin cfg0.N) (p : Fin 1024) (j : Fin 8) :
    iblk m c 1 t (ix3 0 p j) = argW m c (grid0.coords t 0) j (pointNo (grid0.coords t 1).val p.val (grid0.coords t 1).isLt p.isLt) :=
  (read1 c (V m c) t p j).trans (weights_V m c _ _ _)

theorem emb2 (t : Fin cfg0.N) (r : Fin 33832) (l : Fin 64) : (win0_2.blk t).view.emb (ix4 (0 : Fin 1) r (0 : Fin 1) l)
      = ix4 (grid0.coords t 0 : Fin 8) r (0 : Fin 1) l := by
  blk_ext [index2]

theorem read2 (W : (b : Ref sig .tc) → Buf (Elt Ideal) ((c : Thread nD τ).loc b)) (t : Fin cfg0.N) (r : Fin 33832) (l : Fin 64) :
    ((cfg0.win 2).blk t).view.read (Elt Ideal) (W (Pipeline.arrRef spec0 2)) (ix4 0 r 0 l) = W main_v1 (ix4 (grid0.coords t 0 : Fin 8) r 0 l) :=
  congrArg (W main_v1) (emb2 t r l)

theorem blk2 (t : Fin cfg0.N) (r : Fin 33832) (l : Fin 64) : iblk m c 2 t (ix4 0 r 0 l) = longer m c (grid0.coords t 0) r l :=
  read2 c (V m c) t r l

theorem emb3 (t : Fin cfg0.N) (p : Fin 1024) (l : Fin 64) : (win0_3.blk t).view.emb (ix3 (0 : Fin 1) p l)
      = ix3 (grid0.coords t 0 : Fin 8) (pointNo (grid0.coords t 1).val p.val (grid0.coords t 1).isLt p.isLt) l := by
  unfold pointNo
  blk_ext [index3]

/-- The kernel's result array, entry by entry. -/
def result (y : S8x65536x64.Idx) : EReal :=
  sum8 fun j => longer m c (y 0) (rowOf (argB m c (y 0) (y 1)) j.val) (y 2) * argW m c (y 0) j (y 1)

/-- One block of it. -/
theorem block_eq (t : Fin cfg0.N) (p : Fin 1024) (l : Fin 64) : blockOut (iblk m c 0 t) (iblk m c 1 t) (iblk m c 2 t) (ix3 0 p l)
    = result m c (ix3 (grid0.coords t 0 : Fin 8) (pointNo (grid0.coords t 1).val p.val (grid0.coords t 1).isLt p.isLt) l) := by
  refine (blockOut_apply (iblk m c 0 t) (iblk m c 1 t) (iblk m c 2 t) p l).trans ?_
  unfold result
  refine congrArg sum8 (funext fun j => ?_)
  have e : iblk m c 0 t (ix3 0 0 p) = argB m c (grid0.coords t 0) (pointNo (grid0.coords t 1).val p.val (grid0.coords t 1).isLt p.isLt) := blk0 m c t p
  exact congrArg₂ (fun x y : EReal => x * y) ((blk2 m c t _ l).trans (congrArg (fun w => longer m c (grid0.coords t 0) (rowOf w j.val) l) e)) (blk1 m c t p j)

theorem covers : (cfg0.win 3).Covers := by decide +kernel

theorem after0_3 (t : Fin cfg0.N) : (dats m 0 c).after 3 t = blockOut (iblk m c 0 t) (iblk m c 1 t) (iblk m c 2 t) := rfl

/-- One block of it, at its place in the array. -/
theorem placed (t : Fin cfg0.N) (p : Fin 1024) (l : Fin 64) : blockOut (iblk m c 0 t) (iblk m c 1 t) (iblk m c 2 t) (ix3 0 p l) = result m c ((win0_3.blk t).view.emb (ix3 (0 : Fin 1) p l)) :=
  (block_eq m c t p l).trans (congrArg (result m c) (emb3 t p l)).symm

theorem array_eq : (dats m 0 c).arrAt 3 cfg0.N = result m c := by
  refine (dats m 0 c).arrAt_eq_of_covers 3 _ covers fun t hf y => ?_
  obtain ⟨z, p, l, rfl⟩ : ∃ (z : Fin 1) (p : Fin 1024) (l : Fin 64), y = ix3 z p l := ⟨y 0, y 1, y 2, (ix3_eta y).symm⟩
  obtain rfl : z = 0 := Subsingleton.elim _ _
  have h := placed m c t p l
  rw [after0_3]
  revert h
  generalize blockOut (iblk m c 0 t) (iblk m c 1 t) (iblk m c 2 t) = w
  generalize result m c = R
  intro h
  refine Eq.trans ?_ h
  refine (cast_eq _ _).trans ?_
  exact congrArg w (funext fun a => Fin.ext (Pipeline.Window.xinj_val ..))

end Cert.Kernel2Ideal.Interp
-- ==== Proof.Nearest.lean ====
module

public import proofs.«01_k».proof.Proof.Gen.Reference2Ideal.Run
public import Idealize.ShloMosaic.Lib.Pointwise

public import Idealize.ShloMosaic.Lib.WordArith

/-!
# What the interpolation's reference computes

Each of the eight corners of a grid point, clamped to the grid, read from the grid and weighted.
-/

@[expose] public section

set_option maxRecDepth 16384

noncomputable section

namespace Cert.Reference2Ideal.Interp

open Cert.Reference2Ideal Cert.Reference2Ideal.Gen Idealize.ShloMosaic Idealize.ShloMosaic.TcCoe Idealize.SL.Sem Idealize.ShloMosaic.StableHlo

/-- One number for every point, for every corner, and for every point and corner. -/
def forPoints (k : BitVec 32) : IVec S8x1x65536 32 := broadcastInDim S8x1x65536 ![] bcast_S_S8x1x65536 (constantI S_ 32 k)
def forCorners (k : BitVec 32) : IVec S1x8x1 32 := broadcastInDim S1x8x1 ![] bcast_S_S1x8x1 (constantI S_ 32 k)
def forAll (k : BitVec 32) : IVec S8x8x65536 32 := broadcastInDim S8x8x65536 ![] bcast_S_S8x8x65536 (constantI S_ 32 k)

/-- One coordinate: a point's, moved by a corner's, and no more than 31. -/
def coordinate (p : IVec S8x1x65536 32) (q : IVec S1x8x1 32) : IVec S8x8x65536 32 :=
  minsi (addi (broadcastInDim S8x8x65536 ![0, 1, 2] bcast_S8x1x65536_S8x8x65536_0_1_2 p) (broadcastInDim S8x8x65536 ![0, 1, 2] bcast_S1x8x1_S8x8x65536_0_1_2 q)) (forAll 31#32)

/-- The number of each corner, 0 to 7. -/
def number : IVec S1x8x1 32 := iotaInDim S1x8x1 32 1

/-- The grid row of each corner of each point. -/
def corners (b : IVec S8x1x65536 32) : IVec S8x8x65536 32 :=
  addi (muli (addi (muli (coordinate (Host.shrsi b (forPoints 10#32)) (Host.shrsi number (forCorners 2#32))) (forAll 32#32))
    (coordinate (andi (Host.shrsi b (forPoints 5#32)) (forPoints 31#32)) (andi (Host.shrsi number (forCorners 1#32)) (forCorners 1#32)))) (forAll 32#32))
    (coordinate (andi b (forPoints 31#32)) (andi number (forCorners 1#32)))

/-- The reference's result, as a function of its arguments. -/
def value (b : IVec S8x1x65536 32) (w : FVec Ideal S8x8x65536 .f32) (g : FVec Ideal S8x32768x64 .f32) : FVec Ideal S8x65536x64 .f32 :=
  Host.reduceAdd (mulf (Host.gather gather_S8x32768x64_S8x8x65536x1_S8x8x65536x64_3_1_0_0_1_3_1164 g (broadcastInDim S8x8x65536x1 ![0, 1, 2] bcast_S8x8x65536_S8x8x65536x1_0_1_2 (corners b)))
    (broadcastInDim S8x8x65536x64 ![0, 1, 2, 3] bcast_S8x8x65536x1_S8x8x65536x64_0_1_2_3 (broadcastInDim S8x8x65536x1 ![0, 1, 2] bcast_S8x8x65536_S8x8x65536x1_0_1_2 w)))
    (constant S_ .f32 0x00000000#32) reducesTo_S8x8x65536x64_S8x65536x64_d1 h_S_

/-- Every weakly fair execution of the reference ends with its value in the result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference2Ideal.Value.run m ρ

/-- The row of one corner of one point, as words. -/
def rowWord (w k : BitVec 32) : BitVec 32 :=
  IntOp.addi (IntOp.muli (IntOp.addi (IntOp.muli (IntOp.minsi (IntOp.addi (IntOp.shrsi .host w 10#32) (IntOp.shrsi .host k 2#32)) 31#32) 32#32)
      (IntOp.minsi (IntOp.addi (IntOp.andi (IntOp.shrsi .host w 5#32) 31#32) (IntOp.andi (IntOp.shrsi .host k 1#32) 1#32)) 31#32)) 32#32)
    (IntOp.minsi (IntOp.addi (IntOp.andi w 31#32) (IntOp.andi k 1#32)) 31#32)

theorem corners_apply (b : IVec S8x1x65536 32) (a : Fin 8) (j : Fin 8) (n : Fin 65536) :
    corners b (ix3 a j n) = rowWord (b (ix3 a 0 n)) (BitVec.ofNat 32 j.val) := by
  unfold corners coordinate number forPoints forCorners forAll
  pointwise
  rfl

/-- A word below `2³¹` shifted right, in numbers. -/
theorem toNat_shr (w : BitVec 32) (h : w.toNat < 2 ^ 31) (k : ℕ) (hk : k < 32) : (IntOp.shrsi .host w (BitVec.ofNat 32 k)).toNat = w.toNat / 2 ^ k := by
  have hk' : (BitVec.ofNat 32 k).toNat = k := by rw [BitVec.toNat_ofNat]; omega
  have hm : w.msb = false := by rw [BitVec.msb_eq_false_iff_two_mul_lt]; omega
  rw [IntOp.shrsi, if_pos (by omega), BitVec.sshiftRight', hk', BitVec.sshiftRight_eq_of_msb_false hm, BitVec.toNat_ushiftRight, Nat.shiftRight_eq_div_pow]

/-- A word's low bits, in numbers. -/
theorem toNat_low (w : BitVec 32) (k : ℕ) (hk : k < 32) : (IntOp.andi w (BitVec.ofNat 32 (2 ^ k - 1))).toNat = w.toNat % 2 ^ k := by
  have h2 : (2 : ℕ) ^ k < 2 ^ 32 := Nat.pow_lt_pow_right (by omega) hk
  rw [IntOp.andi, BitVec.toNat_and, BitVec.toNat_ofNat, Nat.mod_eq_of_lt (by omega), Nat.and_two_pow_sub_one_eq_mod]

/-- A sum of two small words held below 32, in numbers. -/
theorem toNat_held (x y : BitVec 32) (hx : x.toNat < 2 ^ 30) (hy : y.toNat < 2 ^ 30) : (IntOp.minsi (IntOp.addi x y) 31#32).toNat = min (x.toNat + y.toNat) 31 := by
  have e : (IntOp.addi x y).toNat = x.toNat + y.toNat := by rw [IntOp.addi, BitVec.toNat_add]; omega
  rw [WordArith.toNat_minsi_of_lt _ _ (by omega) (by decide), e]; rfl

/-- The row of corner `k` of the point in cell `w`, in numbers. -/
def row (w k : ℕ) : ℕ := (min (w / 1024 + k / 4) 31 * 32 + min (w / 32 % 32 + k / 2 % 2) 31) * 32 + min (w % 32 + k % 2) 31

theorem row_lt (w k : ℕ) : row w k < 32768 := by unfold row; omega

theorem toNat_rowWord (w k : BitVec 32) (hw : w.toNat < 32768) (hk : k.toNat < 8) : (rowWord w k).toNat = row w.toNat k.toNat := by
  have a1 := toNat_shr w (by omega) 10 (by omega)
  have a2 := toNat_shr w (by omega) 5 (by omega)
  have a3 := toNat_low (IntOp.shrsi .host w 5#32) 5 (by omega)
  have a4 := toNat_low w 5 (by omega)
  have b1 := toNat_shr k (by omega) 2 (by omega)
  have b2 := toNat_shr k (by omega) 1 (by omega)
  have b3 := toNat_low (IntOp.shrsi .host k 1#32) 1 (by omega)
  have b4 := toNat_low k 1 (by omega)
  norm_num at a1 a2 a3 a4 b1 b2 b3 b4
  rw [a2] at a3
  rw [b2] at b3
  have x := toNat_held (IntOp.shrsi .host w 10#32) (IntOp.shrsi .host k 2#32) (by omega) (by omega)
  have y := toNat_held (IntOp.andi (IntOp.shrsi .host w 5#32) 31#32) (IntOp.andi (IntOp.shrsi .host k 1#32) 1#32) (by omega) (by omega)
  have z := toNat_held (IntOp.andi w 31#32) (IntOp.andi k 1#32) (by omega) (by omega)
  rw [a1, b1] at x
  rw [a3, b3] at y
  rw [a4, b4] at z
  unfold rowWord row
  rw [← x, ← y, ← z]
  generalize IntOp.minsi (IntOp.addi (IntOp.shrsi .host w 10#32) (IntOp.shrsi .host k 2#32)) 31#32 = X at *
  generalize IntOp.minsi (IntOp.addi (IntOp.andi (IntOp.shrsi .host w 5#32) 31#32) (IntOp.andi (IntOp.shrsi .host k 1#32) 1#32)) 31#32 = Y at *
  generalize IntOp.minsi (IntOp.addi (IntOp.andi w 31#32) (IntOp.andi k 1#32)) 31#32 = Z at *
  have e32 : (32#32 : BitVec 32).toNat = 32 := rfl
  simp only [IntOp.addi, IntOp.muli, BitVec.toNat_add, BitVec.toNat_mul, e32]
  omega

/-- How the reference's gather reads rows of the grid. -/
abbrev rows : GatherDims S8x32768x64 S8x8x65536x1 S8x8x65536x64 := gather_S8x32768x64_S8x8x65536x1_S8x8x65536x64_3_1_0_0_1_3_1164

/-- One entry of the gather: row `idx` of its own batch, held within the grid. -/
theorem gather_apply {α : Type} (g : S8x32768x64.Idx → α) (idx : IVec S8x8x65536x1 32) (a j : Fin 8) (n : Fin 65536) (l : Fin 64) :
    Host.gather rows g idx (ix4 a j n l)
      = g (ix3 a ⟨min (idx (ix4 a j n 0)).toInt.toNat 32767, by omega⟩ l) := by
  unfold Host.gather
  refine congrArg g (funext fun x => Fin.ext ?_)
  show rows.start (ix4 a j n l) idx x + rows.batchCoord (ix4 a j n l) x + rows.offCoord (ix4 a j n l) x = _
  have hx : x = 0 ∨ x = 1 ∨ x = 2 := by
    revert x; decide
  rcases hx with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ rows.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ rows.startIndexMap from List.mem_singleton.mpr rfl)]
    refine congrArg₂ min (congrArg (fun i => (idx i).toInt.toNat) (funext fun b => Fin.ext ?_)) rfl
    match b with
    | ⟨0, _⟩ => rfl
    | ⟨1, _⟩ => rfl
    | ⟨2, _⟩ => rfl
    | ⟨3, _⟩ => rfl
  · rw [GatherDims.batchCoord_eq_zero _ _ _ (by decide)]
    unfold GatherDims.start GatherDims.offCoord
    rw [dif_neg (show (2 : Fin 3) ∉ rows.startIndexMap by decide), dif_pos (show (2 : Fin 3) ∈ rows.sKept by decide)]
    simp only [Nat.zero_add]
    rfl

/-- One entry of the reference's result: the eight corners' rows, weighted and added up. -/
theorem value_apply (b : IVec S8x1x65536 32) (w : FVec Ideal S8x8x65536 .f32) (g : FVec Ideal S8x32768x64 .f32) (a : Fin 8) (n : Fin 65536) (l : Fin 64)
    (h : (b (ix3 a 0 n)).toNat < 32768) :
    value b w g (ix3 a n l) = ∑ j : Fin 8, g (ix3 a ⟨row (b (ix3 a 0 n)).toNat j.val, row_lt _ _⟩ l) * w (ix3 a j n) := by
  unfold value
  have e : ∀ j, corners b (ix3 a j n) = rowWord (b (ix3 a 0 n)) (BitVec.ofNat 32 j.val) := fun j => corners_apply b a j n
  revert e
  generalize corners b = I
  intro e
  pointwise
  refine Finset.sum_congr rfl fun j _ => congrArg (fun x : EReal => x * w (ix3 a j n)) ?_
  refine (gather_apply g _ a j n l).trans (congrArg (fun r => g (ix3 a r l)) (Fin.ext ?_))
  pointwise
  have hk : (BitVec.ofNat 32 j.val).toNat = j.val := by rw [BitVec.toNat_ofNat]; omega
  have t := toNat_rowWord (b (ix3 a 0 n)) (BitVec.ofNat 32 j.val) h (by omega)
  rw [hk] at t
  have := row_lt (b (ix3 a 0 n)).toNat j.val
  have c := BitVec.toInt_eq_toNat_cond (rowWord (b (ix3 a 0 n)) (BitVec.ofNat 32 j.val))
  rw [e]
  show min _ 32767 = row _ _
  split at c <;> omega

end Cert.Reference2Ideal.Interp
end
-- ==== Proof.Weights.lean ====
module

public import proofs.«01_k».proof.Proof.Words
public import proofs.«01_k».proof.Proof.Nearest

/-!
# What the second precondition says of the weights

A corner that lies beyond the grid has weight zero.
-/

@[expose] public section

set_option maxRecDepth 16384

noncomputable section

namespace Cert.Kernel2Ideal.Interp

open Cert.Kernel2Ideal Cert.Kernel2Ideal.Gen
open Idealize.ShloMosaic Idealize.ShloMosaic.TcCoe Idealize.SL.Sem
open Cert.Reference2Ideal.Interp (toNat_shr toNat_low)

/-- Corner `k` of the point in cell `w` lies beyond the grid along one of the three axes. -/
def Beyond (w k : ℕ) : Prop := (k / 4 = 1 ∧ w / 1024 = 31) ∨ (k / 2 % 2 = 1 ∧ w / 32 % 32 = 31) ∨ (k % 2 = 1 ∧ w % 32 = 31)

/-- The same test on words. -/
def beyondWord (w k : BitVec 32) : BitVec 1 :=
  IntOp.ori (IntOp.ori (IntOp.andi (IntOp.cmpi .ne (IntOp.andi k 4#32) 0#32) (IntOp.cmpi .eq (IntOp.shrsi .host w 10#32) 31#32))
    (IntOp.andi (IntOp.cmpi .ne (IntOp.andi k 2#32) 0#32) (IntOp.cmpi .eq (IntOp.andi (IntOp.shrsi .host w 5#32) 31#32) 31#32)))
    (IntOp.andi (IntOp.cmpi .ne (IntOp.andi k 1#32) 0#32) (IntOp.cmpi .eq (IntOp.andi w 31#32) 31#32))

theorem is31 (x : BitVec 32) (h : x.toNat = 31) : IntOp.cmpi .eq x 31#32 = 1#1 := by
  rw [BitVec.eq_of_toNat_eq (x := x) (y := 31#32) h]; rfl

theorem bit4 (j : Fin 8) (h : j.val / 4 = 1) : IntOp.cmpi .ne (IntOp.andi (BitVec.ofNat 32 j.val) 4#32) 0#32 = 1#1 := by revert j; decide
theorem bit2 (j : Fin 8) (h : j.val / 2 % 2 = 1) : IntOp.cmpi .ne (IntOp.andi (BitVec.ofNat 32 j.val) 2#32) 0#32 = 1#1 := by revert j; decide
theorem bit1 (j : Fin 8) (h : j.val % 2 = 1) : IntOp.cmpi .ne (IntOp.andi (BitVec.ofNat 32 j.val) 1#32) 0#32 = 1#1 := by revert j; decide

theorem beyondWord_of (w : BitVec 32) (j : Fin 8) (hw : w.toNat < 32768) (h : Beyond w.toNat j.val) : beyondWord w (BitVec.ofNat 32 j.val) = 1#1 := by
  have a1 := toNat_shr w (by omega) 10 (by omega)
  have a2 := toNat_shr w (by omega) 5 (by omega)
  have a3 := toNat_low (IntOp.shrsi .host w 5#32) 5 (by omega)
  have a4 := toNat_low w 5 (by omega)
  norm_num at a1 a2 a3 a4
  rw [a2] at a3
  have one : ∀ x : BitVec 1, IntOp.ori x 1#1 = 1#1 ∧ IntOp.ori 1#1 x = 1#1 := by decide
  have both : IntOp.andi (1#1) (1#1) = 1#1 := rfl
  unfold beyondWord
  rcases h with ⟨hk, hx⟩ | ⟨hk, hx⟩ | ⟨hk, hx⟩
  · rw [bit4 j hk, is31 _ (a1.trans hx), both, (one _).2, (one _).2]
  · rw [bit2 j hk, is31 _ (a3.trans hx), both, (one _).1, (one _).2]
  · rw [bit1 j hk, is31 _ (a4.trans hx), both, (one _).1]

/-- The precondition read: cells in range, and no weight beyond the grid. -/
theorem cells_read (b : IVec S8x1x65536 32) (w : FVec Ideal S8x8x65536 .f32) (g : FVec Ideal S8x32768x64 .f32)
    (h : @Cert.Pre_cells.fn Cert.Pre_cells.Gen.facts Ideal _ b w g = fun _ => 1#1) :
    InRange b ∧ ∀ (a j : Fin 8) (n : Fin 65536), Beyond (b (ix3 a 0 n)).toNat j.val → w (ix3 a j n) = (0 : EReal) := by
  have e := congrFun h (fun d => d.elim0)
  unfold Cert.Pre_cells.fn Cert.Pre_cells.fn_part1 Cert.Pre_cells.fn_part2 at e
  obtain ⟨e0, e1⟩ := IntOp.andi_eq_one.1 e
  have hr : InRange b := fun y => by
    obtain ⟨f0, f1⟩ := IntOp.andi_eq_one.1 (Host.reduce_andi_all _ _ _ _ _ e0 y)
    exact toNat_of_bounds (b y) f0 f1
  refine ⟨hr, fun a j n hb => ?_⟩
  have e2 := (Ideal.cmp_oeq_eq_one _ _).1 (Host.reduce_andi_all _ _ _ _ _ e1 (ix3 a j n))
  unfold Cert.Pre_cells.fn_where at e2
  pointwise at e2
  have hw := beyondWord_of _ j (hr (ix3 a 0 n)) hb
  unfold beyondWord at hw
  rw [hw] at e2
  exact e2

end Cert.Kernel2Ideal.Interp
end
-- ==== Proof.Agreement.lean ====
module

public import proofs.«01_k».proof.Proof.Interpolated
public import proofs.«01_k».proof.Proof.Weights

/-!
# The interpolation kernel and its reference agree

A corner within the grid is the same row for both. A corner beyond it, which the kernel reads from the
rows added at the end or from another row and the reference holds back to the grid's last plane, has weight zero.
-/

@[expose] public section

set_option maxRecDepth 16384

noncomputable section

namespace Cert.Kernel2Ideal.Interp

open Cert.Kernel2Ideal Cert.Kernel2Ideal.Gen
open Idealize.ShloMosaic Idealize.ShloMosaic.TcCoe Idealize.SL.Sem
open Cert.Reference2Ideal.Interp (row row_lt value value_apply)

/-- A corner within the grid has the same row number both ways. -/
theorem row_within (w k : ℕ) (hw : w < 32768) (hk : k < 8) (h : ¬ Beyond w k) : (w + corner k) % 33832 = row w k := by
  unfold Beyond at h
  unfold corner row
  interval_cases k <;> omega

theorem sum8_eq (T : Fin 8 → EReal) : sum8 T = ∑ j, T j := by
  rw [Fin.sum_univ_eight, sum8, zero_add]

variable (m : (ℓ : Loc nD τ sig) → Buf (Elt Ideal) ℓ) (c : Dev nD)

/-- The kernel's result array is the reference's value of the same arguments. -/
theorem result_eq (hr : InRange (m ((c : Thread nD τ).loc main_arg0)))
    (hw : ∀ (a j : Fin 8) (n : Fin 65536), Beyond (argB m c a n).toNat j.val → argW m c a j n = 0) :
    result m c = value (m ((c : Thread nD τ).loc main_arg0)) (m ((c : Thread nD τ).loc main_arg1)) (m ((c : Thread nD τ).loc main_arg2)) := by
  funext y
  obtain ⟨a, n, l, rfl⟩ : ∃ (a : Fin 8) (n : Fin 65536) (l : Fin 64), y = ix3 a n l := ⟨y 0, y 1, y 2, (ix3_eta y).symm⟩
  refine (sum8_eq _).trans (Eq.trans ?_ (value_apply _ _ _ a n l (hr _)).symm)
  refine Finset.sum_congr rfl fun j _ => ?_
  show longer m c a (rowOf (argB m c a n) j.val) l * argW m c a j n = argG m c a ⟨row (argB m c a n).toNat j.val, row_lt _ _⟩ l * argW m c a j n
  by_cases hb : Beyond (argB m c a n).toNat j.val
  · rw [hw a j n hb, mul_zero, mul_zero]
  · have e := row_within _ _ (hr (ix3 a 0 n)) j.isLt hb
    have el : (rowOf (argB m c a n) j.val).val = row (argB m c a n).toNat j.val := e
    have lt : (rowOf (argB m c a n) j.val).val < 32768 := el ▸ row_lt _ _
    rw [longer_of_lt m c a _ l lt]
    exact congrArg (fun r => argG m c a r l * argW m c a j n) (Fin.ext el)

end Cert.Kernel2Ideal.Interp
end
-- ==== Proof.Voxels.lean ====
module

public import Idealize.ShloMosaic.Lib.Pointwise

/-!
# Where a point lies in the grid

A cloud's coordinates `x a j` (axis `a`, point `j`), centred, divided by twice the largest distance from the
centre, and placed in the grid: the position `place x a j`, between 0 and 31, from which both programs take the
nearest voxel, the voxel below and the eight corners' weights.
-/

@[expose] public section

set_option maxRecDepth 16384

noncomputable section

namespace Cert.Voxels

open Idealize.ShloMosaic

variable (x : Fin 3 → Fin 65536 → EReal)

/-- A point's distance from the cloud's centre along one axis. -/
def dev (a : Fin 3) (j : Fin 65536) : EReal := x a j - Ideal.div (∑ k, x a k) (Ideal.ofBits .f32 0x47800000#32)

/-- Its squared distance from the centre. -/
def square (j : Fin 65536) : EReal := ∑ a, dev x a j * dev x a j

/-- The largest distance from the centre. -/
def radius : EReal := (Finset.univ : Finset (Fin 65536)).fold max ⊥ fun j => Ideal.sqrt (square x j)

/-- The position in the grid for a given radius. -/
def placeBy (s : EReal) (a : Fin 3) (j : Fin 65536) : EReal :=
  min ((31 : ℝ) : EReal) (max 0 ((Ideal.div (dev x a j) (s * Ideal.ofBits .f32 0x40000000#32) + Ideal.ofBits .f32 0x3F000000#32)
    * Ideal.ofBits .f32 0x42000000#32))

/-- A point's position in the grid. -/
def place (a : Fin 3) (j : Fin 65536) : EReal := placeBy x (radius x) a j

/-- The part of the position above the voxel below. -/
def frac (a : Fin 3) (j : Fin 65536) : EReal := place x a j - Ideal.liftRound Int.floor (place x a j)

/-- The voxel's number, from a way to take an integer out of the position. -/
def voxel (f : EReal → EReal) (j : Fin 65536) : BitVec 32 :=
  IntOp.addi (IntOp.muli (IntOp.addi (IntOp.muli (Ideal.fptosi 32 (f (place x 0 j))) 32#32) (Ideal.fptosi 32 (f (place x 1 j)))) 32#32)
    (Ideal.fptosi 32 (f (place x 2 j)))

/-- One axis's part in a corner's weight. -/
def side (up : Bool) (f : EReal) : EReal := if up then f else 1 - f

/-- A corner's weight. -/
def weight (p q r : Bool) (j : Fin 65536) : EReal := side p (frac x 0 j) * side q (frac x 1 j) * side r (frac x 2 j)

/-- The eight weights in order. -/
def weights (k : Fin 8) : Fin 65536 → EReal :=
  ![weight x false false false, weight x false false true, weight x false true false, weight x false true true,
    weight x true false false, weight x true false true, weight x true true false, weight x true true true] k

/-- One cloud of the batch. -/
def batch (X : (⟨3, ![8, 3, 65536]⟩ : Shape).Idx → EReal) (b : Fin 8) (a : Fin 3) (j : Fin 65536) : EReal := X (ix3 b a j)

/-- The nearest voxels' numbers. -/
def nearest (X : (⟨3, ![8, 3, 65536]⟩ : Shape).Idx → EReal) (y : (⟨3, ![8, 1, 65536]⟩ : Shape).Idx) : BitVec 32 :=
  voxel (batch X (y 0)) (Ideal.liftRound Ideal.roundHalfEven) (y 2)

/-- The numbers of the voxels below. -/
def below (X : (⟨3, ![8, 3, 65536]⟩ : Shape).Idx → EReal) (y : (⟨3, ![8, 1, 65536]⟩ : Shape).Idx) : BitVec 32 :=
  voxel (batch X (y 0)) (Ideal.liftRound Int.floor) (y 2)

/-- The eight corners' weights. -/
def corners (X : (⟨3, ![8, 3, 65536]⟩ : Shape).Idx → EReal) (y : (⟨3, ![8, 8, 65536]⟩ : Shape).Idx) : EReal :=
  weights (batch X (y 0)) (y 1) (y 2)

theorem minus_infinity : Ideal.ofBits .f32 0xFF800000#32 = ⊥ := by simp [Ideal.ofBits, Ideal.ieee]

theorem thirty_one : Ideal.ofBits .f32 0x41F80000#32 = ((31 : ℝ) : EReal) := by
  simp [Ideal.ofBits, Ideal.ieee]
  norm_num [← EReal.coe_mul]

/-- The square root grows, from `⊥` below zero to `⊤` at `⊤`. -/
theorem sqrt_mono : Monotone Ideal.sqrt := by
  intro a b h
  induction a with
  | bot => exact bot_le
  | top => rw [top_le_iff.mp h]
  | coe r =>
    induction b with
    | bot => exact absurd (le_bot_iff.mp h) (EReal.coe_ne_bot r)
    | top => exact le_top
    | coe s =>
      have h' : r ≤ s := EReal.coe_le_coe_iff.mp h
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt h')

/-- The root of the largest square is the largest root. -/
theorem sqrt_fold {ι : Type} (s : Finset ι) (f : ι → EReal) : Ideal.sqrt (s.fold max ⊥ f) = s.fold max ⊥ fun j => Ideal.sqrt (f j) := by
  rw [← Finset.fold_hom (op := max) (m := Ideal.sqrt) (fun a b => sqrt_mono.map_max), Ideal.sqrt_bot]

/-- The whole part of a number between 0 and 31, as a 32-bit integer and back, is itself. -/
theorem floor_word (v : EReal) : (((Ideal.fptosi 32 (Ideal.liftRound Int.floor (min ((31 : ℝ) : EReal) (max 0 v)))).toInt : ℝ) : EReal)
    = Ideal.liftRound Int.floor (min ((31 : ℝ) : EReal) (max 0 v)) := by
  obtain ⟨r, h0, h31, e⟩ : ∃ r : ℝ, 0 ≤ r ∧ r ≤ 31 ∧ min ((31 : ℝ) : EReal) (max 0 v) = r := by
    have lo : (0 : EReal) ≤ min ((31 : ℝ) : EReal) (max 0 v) := le_min (by exact_mod_cast (by norm_num : (0 : ℝ) ≤ 31)) (le_max_left _ _)
    have hi : min ((31 : ℝ) : EReal) (max 0 v) ≤ ((31 : ℝ) : EReal) := min_le_left _ _
    generalize min ((31 : ℝ) : EReal) (max 0 v) = w at lo hi
    induction w with
    | bot => exact absurd (le_bot_iff.mp lo) (by simp)
    | top => exact absurd (top_le_iff.mp hi) (EReal.coe_ne_top _)
    | coe r => exact ⟨r, by exact_mod_cast lo, by exact_mod_cast hi, rfl⟩
  rw [e]
  have f0 : 0 ≤ ⌊r⌋ := Int.floor_nonneg.mpr h0
  have f31 : ⌊r⌋ ≤ 31 := by exact_mod_cast (Int.floor_le r).trans h31
  show (((Ideal.fptosi 32 ((⌊r⌋ : ℝ) : EReal)).toInt : ℝ) : EReal) = ((⌊r⌋ : ℝ) : EReal)
  congr 2
  unfold Ideal.fptosi
  rw [Ideal.toIntClamped_coe]
  have hz : (0 : ℝ) ≤ (⌊r⌋ : ℝ) := by exact_mod_cast f0
  rw [if_pos hz, Int.floor_intCast, BitVec.toInt_ofInt]
  generalize ⌊r⌋ = n at f0 f31
  interval_cases n <;> decide

end Cert.Voxels
end
-- ==== Proof.Position.lean ====
module

public import proofs.«01_k».proof.Proof.Voxels
public import proofs.«01_k».proof.Proof.Gen.Kernel3Ideal.Value
public import Idealize.ShloMosaic.Lib.Pipeline.ValueKit
public import Idealize.ShloMosaic.Lib.IdealHost

/-!
# The result arrays of the kernel that places the points

Each grid point takes one cloud of the batch whole, so each block of a result depends on one block of the argument.
-/

@[expose] public section

set_option maxRecDepth 16384

noncomputable section

namespace Cert.Kernel3Ideal.Position

open Cert.Kernel3Ideal Cert.Kernel3Ideal.Gen Idealize.ShloMosaic Idealize.ShloMosaic.TcCoe Idealize.SL.Sem
open Cert.Voxels

/-- The cloud in a block. -/
def cloud (P : Vec Ideal S1x3x65536 .f32) (a : Fin 3) (j : Fin 65536) : EReal := P (ix3 0 a j)

/-- A maximum over pairs whose first member can only be 0. -/
theorem fold_pair (f : Fin 1 × Fin 65536 → EReal) : Finset.univ.fold max ⊥ f = Finset.univ.fold max ⊥ fun j => f (0, j) := by
  show Finset.univ.sup f = Finset.univ.sup fun j => f (0, j)
  refine le_antisymm (Finset.sup_le fun p _ => ?_) (Finset.sup_le fun j _ => Finset.le_sup (Finset.mem_univ (0, j)))
  obtain ⟨z, j⟩ := p
  obtain rfl : z = 0 := Subsingleton.elim _ _
  exact Finset.le_sup (f := fun j => f (0, j)) (Finset.mem_univ j)

theorem scalar_sqrt (v : EReal) : Scalar.sqrt (F := Ideal) (φ := .f32) v = Ideal.sqrt v := rfl

/-- A row cut out of a vector of three rows. -/
theorem cut (u : FVec Ideal S3x65536 .f32) (o : Fin 2 → ℕ) (a : Fin 3) (h : S3x65536.Slices o S1x65536) (h0 : o 0 = a.val) (h1 : o 1 = 0)
    (j : Fin 65536) : extractStridedSlice S1x65536 o u h (ix2 0 j) = u (ix2 a j) :=
  extractStridedSlice_apply o u h _ _ (fun b => match b with
    | ⟨0, _⟩ => by show a.val = o 0 + 0; rw [h0, Nat.add_zero]
    | ⟨1, _⟩ => by show j.val = o 1 + j.val; rw [h1, Nat.zero_add])

/-- The parts above the voxel below, from the positions. -/
theorem frac_of (x : Fin 3 → Fin 65536 → EReal) (v : FVec Ideal S3x65536 .f32) (h : ∀ a j, v (ix2 a j) = place x a j) (a : Fin 3) (j : Fin 65536) :
    subf v (floor v) (ix2 a j) = frac x a j := by
  show v (ix2 a j) - Ideal.liftRound Int.floor (v (ix2 a j)) = _
  rw [h, frac]

/-- One axis's part in a corner's weight, for all points. -/
def sideRow (up : Bool) (u : FVec Ideal S1x65536 .f32) : FVec Ideal S1x65536 .f32 :=
  if up then u else subf (broadcast S1x65536 (Scalar.ofBits .f32 0x3F800000#32)) u

/-- A corner's weights, for all points. -/
def weightRow (u0 u1 u2 : FVec Ideal S1x65536 .f32) (p q r : Bool) : FVec Ideal S1x65536 .f32 :=
  mulf (mulf (sideRow p u0) (sideRow q u1)) (sideRow r u2)

theorem sideRow_apply (up : Bool) (u : FVec Ideal S1x65536 .f32) (i : S1x65536.Idx) : sideRow up u i = side up (u i) := by
  cases up
  · show Ideal.ofBits .f32 0x3F800000#32 - u i = 1 - u i
    rw [Ideal.ofBits_one_f32]
  · rfl

theorem weightRow_apply (x : Fin 3 → Fin 65536 → EReal) (u0 u1 u2 : FVec Ideal S1x65536 .f32) (j : Fin 65536) (h0 : u0 (ix2 0 j) = frac x 0 j)
    (h1 : u1 (ix2 0 j) = frac x 1 j) (h2 : u2 (ix2 0 j) = frac x 2 j) (p q r : Bool) : weightRow u0 u1 u2 p q r (ix2 0 j) = weight x p q r j := by
  show sideRow p u0 _ * sideRow q u1 _ * sideRow r u2 _ = _
  rw [sideRow_apply, sideRow_apply, sideRow_apply, h0, h1, h2, weight]

/-- The clipped positions that the body computes. -/
theorem position (P : Vec Ideal S1x3x65536 .f32) (a : Fin 3) (j : Fin 65536) : k0_pay4 (F := Ideal) P (ix2 a j) = place (cloud P) a j := by
  pointwise [k0_pay4]
  rw [minus_infinity, thirty_one]
  rw [fold_pair, scalar_sqrt, sqrt_fold]
  simp only [place, placeBy, radius, square, dev, cloud]

theorem corner : (![0, 0, 0] : Fin 3 → ℕ) = fun _ => 0 := by decide

variable (P : Vec Ideal S1x3x65536 .f32) (j : Fin 65536)

theorem block1 : out0_1 (F := Ideal) P (ix3 0 0 j) = voxel (cloud P) (Ideal.liftRound Ideal.roundHalfEven) j := by
  unfold out0_1
  rw [Value.canon1_eq, View.ld_unit_zero corner]
  show IntOp.addi (IntOp.muli (IntOp.addi (IntOp.muli (Ideal.fptosi 32 (Ideal.liftRound Ideal.roundHalfEven (k0_pay4 P _))) 32#32) _) 32#32) _ = _
  unfold voxel
  rw [← position, ← position, ← position]
  pointwise
  rfl

/-- One of the eight rows that the body puts together. -/
theorem row (k : Fin 8) : Value.Cat3_0 (F := Ideal) P k (ix2 0 j) = weights (cloud P) k j := by
  have h := frac_of _ _ (position P)
  have h0 := (cut _ _ 0 slices_S3x65536_o0_0_S1x65536 rfl rfl j).trans (h 0 j)
  have h1 := (cut _ _ 1 slices_S3x65536_o1_0_S1x65536 rfl rfl j).trans (h 1 j)
  have h2 := (cut _ _ 2 slices_S3x65536_o2_0_S1x65536 rfl rfl j).trans (h 2 j)
  have e := weightRow_apply (cloud P) _ _ _ j h0 h1 h2
  fin_cases k
  · exact e false false false
  · exact e false false true
  · exact e false true false
  · exact e false true true
  · exact e true false false
  · exact e true false true
  · exact e true true false
  · exact e true true true

theorem row_index (k : Fin 8) : Value.ix3_0 (ix3 0 k j) = ix2 0 j := funext fun a => by fin_cases a <;> rfl

theorem row_choice (k : Fin 8) : Value.csel3_0 (ix3 0 k j) = k := rfl

theorem block3 (k : Fin 8) : out0_3 (F := Ideal) P (ix3 0 k j) = weights (cloud P) k j := by
  unfold out0_3 k0_pay6
  rw [Value.canon3_eq, View.ld_unit_zero corner]
  unfold Value.E3
  rw [row_index, row_choice, row]

theorem block2 : out0_2 (F := Ideal) P (ix3 0 0 j) = voxel (cloud P) (Ideal.liftRound Int.floor) j := by
  unfold out0_2 k0_pay6
  rw [Value.canon2_eq, View.ld_unit_zero corner]
  show IntOp.addi (IntOp.muli (IntOp.addi (IntOp.muli (Ideal.fptosi 32 (Ideal.liftRound Int.floor (k0_pay4 P _))) 32#32) _) 32#32) _ = _
  unfold voxel
  rw [← position, ← position, ← position]
  pointwise
  rfl

end Cert.Kernel3Ideal.Position
end
-- ==== Proof.Placed.lean ====
module

public import proofs.«01_k».proof.Proof.Position

/-!
# The three result arrays of the kernel that places the points
-/

@[expose] public section

set_option maxRecDepth 16384

noncomputable section

namespace Cert.Kernel3Ideal.Position

open Cert.Kernel3Ideal Cert.Kernel3Ideal.Gen Idealize.ShloMosaic Idealize.ShloMosaic.TcCoe Idealize.SL.Sem
open Idealize.ShloMosaic.Pipeline (Dat)
open Cert.Voxels

theorem index0 : ∀ t : Fin cfg0.N, win0_0.index t = ![(grid0.coords t 0).val, 0, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![(grid0.coords t 0).val, 0, 0] := (by decide +kernel : ∀ t : Fin grid0.N, _)
theorem index3 : ∀ t : Fin cfg0.N, win0_3.index t = ![(grid0.coords t 0).val, 0, 0] := (by decide +kernel : ∀ t : Fin grid0.N, _)

theorem covers1 : (cfg0.win 1).Covers := by decide +kernel
theorem covers2 : (cfg0.win 2).Covers := by decide +kernel
theorem covers3 : (cfg0.win 3).Covers := by decide +kernel

theorem emb1 (t : Fin cfg0.N) (j : Fin 65536) : (win0_1.blk t).view.emb (ix3 (0 : Fin 1) (0 : Fin 1) j) = ix3 (grid0.coords t 0 : Fin 8) (0 : Fin 1) j := by
  blk_ext [index1]
theorem emb2 (t : Fin cfg0.N) (j : Fin 65536) : (win0_2.blk t).view.emb (ix3 (0 : Fin 1) (0 : Fin 1) j) = ix3 (grid0.coords t 0 : Fin 8) (0 : Fin 1) j := by
  blk_ext [index2]
theorem emb3 (t : Fin cfg0.N) (k : Fin 8) (j : Fin 65536) : (win0_3.blk t).view.emb (ix3 (0 : Fin 1) k j) = ix3 (grid0.coords t 0 : Fin 8) k j := by
  blk_ext [index3]

variable (m : (ℓ : Loc nD τ sig) → Buf (Elt Ideal) ℓ) (c : Dev nD)

/-- The block a grid point reads is one cloud of the batch. -/
theorem cloud_read (t : Fin cfg0.N) : cloud (iblk m c 0 t) = batch (m ((c : Thread nD τ).loc main_arg0)) (grid0.coords t 0) := by
  funext a j
  unfold cloud batch
  blk_simp [iblk]
  rw [V_main_arg0]
  refine congrArg (m ((c : Thread nD τ).loc main_arg0)) ?_
  blk_ext [index0]

theorem placed1 (t : Fin cfg0.N) (j : Fin 65536) : out0_1 (iblk m c 0 t) (ix3 0 0 j)
    = nearest (m ((c : Thread nD τ).loc main_arg0)) ((win0_1.blk t).view.emb (ix3 (0 : Fin 1) (0 : Fin 1) j)) := by
  rw [emb1, block1, cloud_read]
  rfl

theorem placed2 (t : Fin cfg0.N) (j : Fin 65536) : out0_2 (iblk m c 0 t) (ix3 0 0 j)
    = below (m ((c : Thread nD τ).loc main_arg0)) ((win0_2.blk t).view.emb (ix3 (0 : Fin 1) (0 : Fin 1) j)) := by
  rw [emb2, block2, cloud_read]
  rfl

theorem placed3 (t : Fin cfg0.N) (k : Fin 8) (j : Fin 65536) : out0_3 (iblk m c 0 t) (ix3 0 k j)
    = corners (m ((c : Thread nD τ).loc main_arg0)) ((win0_3.blk t).view.emb (ix3 (0 : Fin 1) k j)) := by
  rw [emb3, block3, cloud_read]
  rfl

theorem array1 : (dats m 0 c).arrAt 1 cfg0.N = nearest (m ((c : Thread nD τ).loc main_arg0)) := by
  refine (dats m 0 c).arrAt_eq_of_covers 1 _ covers1 fun t hf y => ?_
  obtain ⟨z, z', j, rfl⟩ : ∃ (z : Fin 1) (z' : Fin 1) (j : Fin 65536), y = ix3 z z' j := ⟨y 0, y 1, y 2, (ix3_eta y).symm⟩
  obtain rfl : z = 0 := Subsingleton.elim _ _
  obtain rfl : z' = 0 := Subsingleton.elim _ _
  have h := placed1 m c t j
  rw [after0_1]
  revert h
  generalize out0_1 (iblk m c 0 t) = w
  generalize nearest (m ((c : Thread nD τ).loc main_arg0)) = R
  intro h
  refine Eq.trans ?_ h
  refine (cast_eq _ _).trans ?_
  exact congrArg w (funext fun a => Fin.ext (Pipeline.Window.xinj_val ..))

theorem array2 : (dats m 0 c).arrAt 2 cfg0.N = below (m ((c : Thread nD τ).loc main_arg0)) := by
  refine (dats m 0 c).arrAt_eq_of_covers 2 _ covers2 fun t hf y => ?_
  obtain ⟨z, z', j, rfl⟩ : ∃ (z : Fin 1) (z' : Fin 1) (j : Fin 65536), y = ix3 z z' j := ⟨y 0, y 1, y 2, (ix3_eta y).symm⟩
  obtain rfl : z = 0 := Subsingleton.elim _ _
  obtain rfl : z' = 0 := Subsingleton.elim _ _
  have h := placed2 m c t j
  rw [after0_2]
  revert h
  generalize out0_2 (iblk m c 0 t) = w
  generalize below (m ((c : Thread nD τ).loc main_arg0)) = R
  intro h
  refine Eq.trans ?_ h
  refine (cast_eq _ _).trans ?_
  exact congrArg w (funext fun a => Fin.ext (Pipeline.Window.xinj_val ..))

theorem array3 : (dats m 0 c).arrAt 3 cfg0.N = corners (m ((c : Thread nD τ).loc main_arg0)) := by
  refine (dats m 0 c).arrAt_eq_of_covers 3 _ covers3 fun t hf y => ?_
  obtain ⟨z, k, j, rfl⟩ : ∃ (z : Fin 1) (k : Fin 8) (j : Fin 65536), y = ix3 z k j := ⟨y 0, y 1, y 2, (ix3_eta y).symm⟩
  obtain rfl : z = 0 := Subsingleton.elim _ _
  have h := placed3 m c t k j
  rw [after0_3]
  revert h
  generalize out0_3 (iblk m c 0 t) = w
  generalize corners (m ((c : Thread nD τ).loc main_arg0)) = R
  intro h
  refine Eq.trans ?_ h
  refine (cast_eq _ _).trans ?_
  exact congrArg w (funext fun a => Fin.ext (Pipeline.Window.xinj_val ..))

end Cert.Kernel3Ideal.Position
end
-- ==== Proof.Positions.lean ====
module

public import proofs.«01_k».proof.Proof.Voxels
public import proofs.«01_k».proof.Proof.Gen.Reference3Ideal.Run
public import Idealize.ShloMosaic.Lib.IdealHost

/-!
# The reference that places the points, entry by entry
-/

@[expose] public section

set_option maxRecDepth 16384

noncomputable section

namespace Cert.Reference3Ideal.Position

open Cert.Reference3Ideal Cert.Reference3Ideal.Gen Idealize.ShloMosaic Idealize.ShloMosaic.TcCoe Idealize.ShloMosaic.StableHlo Idealize.SL.Sem
open Cert.Voxels

/-- The coordinates less their mean. -/
def centred (X : FVec Ideal S8x3x65536 .f32) : FVec Ideal S8x3x65536 .f32 :=
  subf X (broadcastInDim S8x3x65536 ![0, 1, 2] bcast_S8x3x1_S8x3x65536_0_1_2 (Host.divf (broadcastInDim S8x3x1 ![0, 1] bcast_S8x3_S8x3x1_0_1
    (Host.reduceAdd X (constant S_ .f32 0x00000000#32) reducesTo_S8x3x65536_S8x3_d2 h_S_)) (broadcastInDim S8x3x1 ![] bcast_S_S8x3x1 (constant S_ .f32 0x47800000#32))))

/-- The largest distance from the mean, cloud by cloud. -/
def largest (v : FVec Ideal S8x3x65536 .f32) : FVec Ideal S8 .f32 :=
  Host.reduce FloatOps.maximumf (Host.sqrt (Host.reduceAdd (mulf v v) (constant S_ .f32 0x00000000#32) reducesTo_S8x3x65536_S8x65536_d1 h_S_))
    (constant S_ .f32 0xFF800000#32) reducesTo_S8x65536_S8_d1 h_S_

/-- The positions in the grid, from the distances and the largest distances. -/
def within (v : FVec Ideal S8x3x65536 .f32) (l : FVec Ideal S8 .f32) : FVec Ideal S8x3x65536 .f32 :=
  minimumf (broadcastInDim S8x3x65536 ![] bcast_S_S8x3x65536 (sitofp .f32 (constantI S_ 32 31#32)))
    (maximumf (broadcastInDim S8x3x65536 ![] bcast_S_S8x3x65536 (id (constant S_ .f32 0x00000000#32)))
      (mulf (addf (Host.divf v (broadcastInDim S8x3x65536 ![0, 1, 2] bcast_S8x1x1_S8x3x65536_0_1_2
          (mulf (broadcastInDim S8x1x1 ![0] bcast_S8_S8x1x1_0 l) (broadcastInDim S8x1x1 ![] bcast_S_S8x1x1 (constant S_ .f32 0x40000000#32)))))
        (broadcastInDim S8x3x65536 ![] bcast_S_S8x3x65536 (constant S_ .f32 0x3F000000#32))) (broadcastInDim S8x3x65536 ![] bcast_S_S8x3x65536 (constant S_ .f32 0x42000000#32))))

/-- The positions in the grid. -/
def positions (X : FVec Ideal S8x3x65536 .f32) : FVec Ideal S8x3x65536 .f32 := within (centred X) (largest (centred X))

theorem centred_apply (X : FVec Ideal S8x3x65536 .f32) (b : Fin 8) (a : Fin 3) (j : Fin 65536) : centred X (ix3 b a j) = dev (batch X b) a j := by
  pointwise [centred]
  rfl

theorem largest_apply (v : FVec Ideal S8x3x65536 .f32) (x : Fin 3 → Fin 65536 → EReal) (b : Fin 8) (h : ∀ a j, v (ix3 b a j) = dev x a j) :
    largest v (ix1 b) = radius x := by
  pointwise [largest]
  simp only [h, minus_infinity, radius, square]

theorem within_apply (v : FVec Ideal S8x3x65536 .f32) (l : FVec Ideal S8 .f32) (x : Fin 3 → Fin 65536 → EReal) (b : Fin 8) (a : Fin 3) (j : Fin 65536)
    (h : v (ix3 b a j) = dev x a j) (hl : l (ix1 b) = radius x) : within v l (ix3 b a j) = place x a j := by
  pointwise [within]
  rw [h, hl]
  show min (((31 : ℤ) : ℝ) : EReal) (max (Ideal.ofBits .f32 0x00000000#32) _) = min ((31 : ℝ) : EReal) (max 0 _)
  rw [Ideal.ofBits_zero_f32, Int.cast_ofNat]

theorem positions_apply (X : FVec Ideal S8x3x65536 .f32) (b : Fin 8) (a : Fin 3) (j : Fin 65536) : positions X (ix3 b a j) = place (batch X b) a j :=
  within_apply _ _ _ b a j (centred_apply X b a j) (largest_apply _ _ b (centred_apply X b))

/-- The voxels' numbers from three integers a point. -/
def numbers (v : IVec S8x3x65536 32) : IVec S8x1x65536 32 :=
  broadcastInDim S8x1x65536 ![0, 2] bcast_S8x65536_S8x1x65536_0_2 (addi (muli (addi (muli
    (shapeCast _ (extractStridedSlice S8x1x65536 ![0, 0, 0] v slices_S8x3x65536_S8x1x65536_0_0_0) shapeCasts_S8x1x65536_S8x65536)
      (broadcastInDim S8x65536 ![] bcast_S_S8x65536 (constantI S_ 32 32#32)))
    (shapeCast _ (extractStridedSlice S8x1x65536 ![0, 1, 0] v slices_S8x3x65536_S8x1x65536_0_1_0) shapeCasts_S8x1x65536_S8x65536))
      (broadcastInDim S8x65536 ![] bcast_S_S8x65536 (constantI S_ 32 32#32)))
    (shapeCast _ (extractStridedSlice S8x1x65536 ![0, 2, 0] v slices_S8x3x65536_S8x1x65536_0_2_0) shapeCasts_S8x1x65536_S8x65536))

theorem numbers_apply (v : IVec S8x3x65536 32) (b : Fin 8) (j : Fin 65536) : numbers v (ix3 b 0 j)
    = IntOp.addi (IntOp.muli (IntOp.addi (IntOp.muli (v (ix3 b 0 j)) 32#32) (v (ix3 b 1 j))) 32#32) (v (ix3 b 2 j)) := by
  pointwise [numbers]

/-- The number of the voxel that a rounding of the positions names. -/
theorem numbered (v : IVec S8x3x65536 32) (x : Fin 3 → Fin 65536 → EReal) (f : EReal → EReal) (b : Fin 8) (j : Fin 65536)
    (h : ∀ a, v (ix3 b a j) = Ideal.fptosi 32 (f (place x a j))) : numbers v (ix3 b 0 j) = voxel x f j := by
  rw [numbers_apply, h, h, h, voxel]

theorem roundeven_apply (v : FVec Ideal S8x3x65536 .f32) (i : S8x3x65536.Idx) :
    fptosi 32 (Host.roundeven v) i = Ideal.fptosi 32 (Ideal.liftRound Ideal.roundHalfEven (v i)) := rfl

theorem floor_apply (v : FVec Ideal S8x3x65536 .f32) (i : S8x3x65536.Idx) :
    fptosi 32 (Host.floor v) i = Ideal.fptosi 32 (Ideal.liftRound Int.floor (v i)) := rfl

/-- One coordinate of the fractions, for all points. -/
def axis (v : FVec Ideal S8x3x65536 .f32) (o : Fin 3 → ℕ) (h : S8x3x65536.Slices o S8x1x65536) : FVec Ideal S8x65536 .f32 :=
  shapeCast S8x65536 (extractStridedSlice S8x1x65536 o v h) shapeCasts_S8x1x65536_S8x65536

theorem axis_apply (v : FVec Ideal S8x3x65536 .f32) (o : Fin 3 → ℕ) (h : S8x3x65536.Slices o S8x1x65536) (a : Fin 3) (ho : o = ![0, a.val, 0])
    (b : Fin 8) (j : Fin 65536) : axis v o h (ix2 b j) = v (ix3 b a j) := by
  subst ho
  pointwise [axis]

/-- One axis's part in a corner's weight. -/
def part (up : Bool) (u : FVec Ideal S8x65536 .f32) : FVec Ideal S8x65536 .f32 :=
  bif up then u else subf (broadcastInDim S8x65536 ![] bcast_S_S8x65536 (constant S_ .f32 0x3F800000#32)) u

theorem part_apply (up : Bool) (u : FVec Ideal S8x65536 .f32) (i : S8x65536.Idx) : part up u i = side up (u i) := by
  cases up
  · show Ideal.ofBits .f32 0x3F800000#32 - u i = 1 - u i
    rw [Ideal.ofBits_one_f32]
  · rfl

/-- A corner's weights. -/
def corner (u0 u1 u2 : FVec Ideal S8x65536 .f32) (p q r : Bool) : FVec Ideal S8x1x65536 .f32 :=
  broadcastInDim S8x1x65536 ![0, 2] bcast_S8x65536_S8x1x65536_0_2 (mulf (mulf (part p u0) (part q u1)) (part r u2))

theorem corner_apply (x : Fin 3 → Fin 65536 → EReal) (u0 u1 u2 : FVec Ideal S8x65536 .f32) (b : Fin 8) (j : Fin 65536) (h0 : u0 (ix2 b j) = frac x 0 j)
    (h1 : u1 (ix2 b j) = frac x 1 j) (h2 : u2 (ix2 b j) = frac x 2 j) (p q r : Bool) : corner u0 u1 u2 p q r (ix3 b 0 j) = weight x p q r j := by
  pointwise [corner]
  rw [part_apply, part_apply, part_apply, h0, h1, h2, weight]

/-- The eight corners in order. -/
def rows (u0 u1 u2 : FVec Ideal S8x65536 .f32) : Fin 8 → FVec Ideal S8x1x65536 .f32 :=
  ![corner u0 u1 u2 false false false, corner u0 u1 u2 false false true, corner u0 u1 u2 false true false, corner u0 u1 u2 false true true,
    corner u0 u1 u2 true false false, corner u0 u1 u2 true false true, corner u0 u1 u2 true true false, corner u0 u1 u2 true true true]

theorem rows_apply (x : Fin 3 → Fin 65536 → EReal) (u0 u1 u2 : FVec Ideal S8x65536 .f32) (b : Fin 8) (k : Fin 8) (j : Fin 65536)
    (h0 : u0 (ix2 b j) = frac x 0 j) (h1 : u1 (ix2 b j) = frac x 1 j) (h2 : u2 (ix2 b j) = frac x 2 j) :
    rows u0 u1 u2 k (ix3 b 0 j) = weights x k j := by
  have e := corner_apply x u0 u1 u2 b j h0 h1 h2
  fin_cases k <;> exact e _ _ _

/-- The eight corners' weights stacked. -/
def stacked (u0 u1 u2 : FVec Ideal S8x65536 .f32) : FVec Ideal S8x8x65536 .f32 :=
  concatenate S8x8x65536 1 (List.ofFn fun k : Fin 8 => (⟨S8x1x65536, rows u0 u1 u2 k⟩ : (s : Shape) × (s.Idx → Ideal .f32)))
    concatenates_S8x1x65536_S8x1x65536_S8x1x65536_S8x1x65536_S8x1x65536_S8x1x65536_S8x1x65536_S8x1x65536_S8x8x65536_d1

theorem stacked_apply (u0 u1 u2 : FVec Ideal S8x65536 .f32) (b : Fin 8) (k : Fin 8) (j : Fin 65536) :
    stacked u0 u1 u2 (ix3 b k j) = rows u0 u1 u2 k (ix3 b 0 j) :=
  concatenate_ofFn_apply (t := S8x8x65536) (s₁ := S8x1x65536) (1 : Fin 3) (rows u0 u1 u2) _ rfl 1 rfl (ix3 b k j) k
    (by show k.val / 1 = k.val; omega) (ix3 b 0 j) (by show 0 = k.val % 1; omega)
    (fun a h => by match a with | ⟨0, _⟩ => rfl | ⟨1, _⟩ => exact absurd rfl h | ⟨2, _⟩ => rfl)

/-- The fractions of the positions. -/
def fractions (v : FVec Ideal S8x3x65536 .f32) : FVec Ideal S8x3x65536 .f32 := subf v (sitofp .f32 (fptosi 32 (Host.floor v)))

theorem fractions_apply (v : FVec Ideal S8x3x65536 .f32) (x : Fin 3 → Fin 65536 → EReal) (b : Fin 8) (a : Fin 3) (j : Fin 65536)
    (h : v (ix3 b a j) = place x a j) : fractions v (ix3 b a j) = frac x a j := by
  show v (ix3 b a j) - (((Ideal.fptosi 32 (Ideal.liftRound Int.floor (v (ix3 b a j)))).toInt : ℝ) : EReal) = frac x a j
  rw [h, frac, place, placeBy, floor_word]

/-- The weights from the fractions. -/
def shares (f : FVec Ideal S8x3x65536 .f32) : FVec Ideal S8x8x65536 .f32 :=
  stacked (axis f ![0, 0, 0] slices_S8x3x65536_S8x1x65536_0_0_0) (axis f ![0, 1, 0] slices_S8x3x65536_S8x1x65536_0_1_0)
    (axis f ![0, 2, 0] slices_S8x3x65536_S8x1x65536_0_2_0)

theorem shares_apply (f : FVec Ideal S8x3x65536 .f32) (x : Fin 3 → Fin 65536 → EReal) (b k : Fin 8) (j : Fin 65536)
    (h : ∀ a, f (ix3 b a j) = frac x a j) : shares f (ix3 b k j) = weights x k j :=
  (stacked_apply _ _ _ b k j).trans (rows_apply x _ _ _ b k j ((axis_apply f _ _ 0 rfl b j).trans (h 0)) ((axis_apply f _ _ 1 rfl b j).trans (h 1))
    ((axis_apply f _ _ 2 rfl b j).trans (h 2)))

variable (m : (ℓ : Loc nD τ sig) → Buf (Elt Ideal) ℓ) (c : Dev nD)

theorem value0 : Value.res_out0 m c = numbers (fptosi 32 (Host.roundeven (positions (m ((c.tc : Thread nD τ).loc main_arg0))))) := rfl

theorem value1 : Value.res_out1 m c = numbers (fptosi 32 (Host.floor (positions (m ((c.tc : Thread nD τ).loc main_arg0))))) := rfl

theorem value2 : Value.res_out2 m c = shares (fractions (positions (m ((c.tc : Thread nD τ).loc main_arg0)))) := rfl

theorem numbers_nearest (X : FVec Ideal S8x3x65536 .f32) : numbers (fptosi 32 (Host.roundeven (positions X))) = nearest X := by
  funext y
  obtain ⟨b, z, j, rfl⟩ : ∃ (b : Fin 8) (z : Fin 1) (j : Fin 65536), y = ix3 b z j := ⟨y 0, y 1, y 2, eq_ix3 y⟩
  obtain rfl : z = 0 := Subsingleton.elim _ _
  exact numbered _ (batch X b) (Ideal.liftRound Ideal.roundHalfEven) b j fun a => (roundeven_apply _ _).trans (by rw [positions_apply])

theorem numbers_below (X : FVec Ideal S8x3x65536 .f32) : numbers (fptosi 32 (Host.floor (positions X))) = below X := by
  funext y
  obtain ⟨b, z, j, rfl⟩ : ∃ (b : Fin 8) (z : Fin 1) (j : Fin 65536), y = ix3 b z j := ⟨y 0, y 1, y 2, eq_ix3 y⟩
  obtain rfl : z = 0 := Subsingleton.elim _ _
  exact numbered _ (batch X b) (Ideal.liftRound Int.floor) b j fun a => (floor_apply _ _).trans (by rw [positions_apply])

theorem shares_corners (X : FVec Ideal S8x3x65536 .f32) : shares (fractions (positions X)) = corners X := by
  funext y
  obtain ⟨b, k, j, rfl⟩ : ∃ (b : Fin 8) (k : Fin 8) (j : Fin 65536), y = ix3 b k j := ⟨y 0, y 1, y 2, eq_ix3 y⟩
  exact shares_apply _ (batch X b) b k j fun a => fractions_apply _ _ b a j (positions_apply X b a j)

theorem result0 : Value.res_out0 m c = nearest (m ((c.tc : Thread nD τ).loc main_arg0)) := (value0 m c).trans (numbers_nearest _)
theorem result1 : Value.res_out1 m c = below (m ((c.tc : Thread nD τ).loc main_arg0)) := (value1 m c).trans (numbers_below _)
theorem result2 : Value.res_out2 m c = corners (m ((c.tc : Thread nD τ).loc main_arg0)) := (value2 m c).trans (shares_corners _)

end Cert.Reference3Ideal.Position
end
-- ==== Proof.lean ====
module

public import proofs.«01_k».proof.Defs
public import proofs.«01_k».proof.Proof.Gen.KernelIdeal.Value
public import proofs.«01_k».proof.Proof.Equation
public import proofs.«01_k».proof.Proof.Carry
public import proofs.«01_k».proof.Proof.Agreement
public import proofs.«01_k».proof.Proof.Placed
public import proofs.«01_k».proof.Proof.Positions
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_stats
public import Idealize.ShloMosaic.Adequacy
public import Idealize.ShloMosaic.Init

@[expose] public section

noncomputable section

namespace Cert.Proof

open Idealize.ShloMosaic Idealize.SL.Sem Cert.Kernel

/-- The reference runs, keeps its arguments and, declaring no semaphore, ends with every counter at zero. -/
theorem reference_frame : quiescent_ReferenceIdeal (hReferenceIdeal := Cert.ReferenceIdeal.Gen.facts) :=
  fun m g _ => (θ_run _ _ _).mono (fun r h => ⟨fun c => (h c).2, sem_eq_zero_of_no_sems (by decide) r.2⟩) (Cert.ReferenceIdeal.Conv.run m g)

/-- The reference's value is the kernel's result, on arguments that the precondition accepts. -/
theorem value_eq (m : (ℓ : Loc Cert.KernelIdeal.nD Cert.KernelIdeal.τ Cert.KernelIdeal.sig) → Buf (Elt Ideal) ℓ) (c : Dev Cert.KernelIdeal.nD)
    (h : Pre_KernelIdeal_stats (hPre_stats := Cert.Pre_stats.Gen.facts) m) :
    Cert.ReferenceIdeal.Conv.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    = Cert.KernelIdeal.Conv.result m c := by
  funext y
  rw [← ix3_eta y]
  exact Cert.Equation.value_apply _ _ _ _ _ _ _ (h c) _ _ _

theorem equal : algebraic_KernelIdeal_ReferenceIdeal_pre_stats (hKernelIdeal := Cert.KernelIdeal.Gen.facts)
    (hReferenceIdeal := Cert.ReferenceIdeal.Gen.facts) (hPre_stats := Cert.Pre_stats.Gen.facts) := by
  intro m g m' g' hpre hargs
  refine ⟨Cert.KernelIdeal.Conv.result m, (θ_run _ _ _).mono (fun r h c => ?_) (Cert.KernelIdeal.Value.run_blocks m g),
    (θ_run _ _ _).mono (fun r h c => ?_) (Cert.ReferenceIdeal.Conv.run m' g')⟩
  · exact ⟨(h c).1.trans (Cert.KernelIdeal.Conv.array_eq m c), (h c).2⟩
  · obtain ⟨h0, h1, h2, h3, h4, h5, h6⟩ := hargs c
    refine ⟨(h c).1.trans ?_, (h c).2⟩
    rw [h0, h1, h2, h3, h4, h5, h6]
    exact value_eq m c hpre

/-! ## The interpolation -/

/-- The interpolation's reference runs, keeps its arguments and, declaring no semaphore, ends with every counter at zero. -/
theorem reference2_frame : quiescent_Reference2Ideal (hReference2Ideal := Cert.Reference2Ideal.Gen.facts) :=
  fun m g _ => (θ_run _ _ _).mono (fun r h => ⟨fun c => (h c).2, sem_eq_zero_of_no_sems (by decide) r.2⟩) (Cert.Reference2Ideal.Interp.run m g)

theorem kernel2_frame : quiescent_Kernel2 (hKernel2 := Cert.Kernel2.Gen.facts) (hPre_in_range := Cert.Pre_in_range.Gen.facts) :=
  fun m g h => Cert.Kernel2.Interp.frame m g fun c => Cert.Kernel2Ideal.Interp.in_range_read _ _ _ (h c)

theorem kernel2Ideal_frame : quiescent_Kernel2Ideal (hKernel2Ideal := Cert.Kernel2Ideal.Gen.facts) (hPre_in_range := Cert.Pre_in_range.Gen.facts) :=
  fun m g h => Cert.Kernel2Ideal.Interp.frame m g fun c => Cert.Kernel2Ideal.Interp.in_range_read _ _ _ (h c)

theorem kernel2Ideal_frame_cells : quiescent_Kernel2Ideal_pre_cells (hKernel2Ideal := Cert.Kernel2Ideal.Gen.facts) (hPre_cells := Cert.Pre_cells.Gen.facts) :=
  fun m g h => Cert.Kernel2Ideal.Interp.frame m g fun c => (Cert.Kernel2Ideal.Interp.cells_read _ _ _ (h c)).1

theorem equal2 : algebraic_Kernel2Ideal_Reference2Ideal_pre_cells (hKernel2Ideal := Cert.Kernel2Ideal.Gen.facts)
    (hReference2Ideal := Cert.Reference2Ideal.Gen.facts) (hPre_cells := Cert.Pre_cells.Gen.facts) := by
  intro m g m' g' hpre hargs
  have hread := fun c => Cert.Kernel2Ideal.Interp.cells_read _ _ _ (hpre c)
  refine ⟨Cert.Kernel2Ideal.Interp.result m, (θ_run _ _ _).mono (fun r h c => ?_)
      (Cert.Kernel2Ideal.Interp.run g (Cert.Kernel2Ideal.Interp.words_of m fun c => (hread c).1)),
    (θ_run _ _ _).mono (fun r h c => ?_) (Cert.Reference2Ideal.Interp.run m' g')⟩
  · exact ⟨(h.1 c).1.trans (Cert.Kernel2Ideal.Interp.array_eq m c), (h.1 c).2⟩
  · obtain ⟨h0, h1, h2⟩ := hargs c
    refine ⟨(h c).1.trans ?_, (h c).2⟩
    rw [h0, h1, h2]
    exact (Cert.Kernel2Ideal.Interp.result_eq m c (hread c).1 (hread c).2).symm

/-! ## The placement of the points -/

/-- The placement's reference runs, keeps its argument and, declaring no semaphore, ends with every counter at zero. -/
theorem reference3_frame : quiescent_Reference3Ideal (hReference3Ideal := Cert.Reference3Ideal.Gen.facts) :=
  fun m g _ => (θ_run _ _ _).mono (fun r h => ⟨fun c => (h c).2.2.2.2, sem_eq_zero_of_no_sems (by decide) r.2⟩) (Cert.Reference3Ideal.Value.run m g)

theorem equal3 : algebraic_Kernel3Ideal_Reference3Ideal (hKernel3Ideal := Cert.Kernel3Ideal.Gen.facts)
    (hReference3Ideal := Cert.Reference3Ideal.Gen.facts) := by
  intro m g m' g' _ hargs
  let X := fun c : Dev Cert.Kernel3Ideal.nD => m ((c.tc : Thread Cert.Kernel3Ideal.nD Cert.Kernel3Ideal.τ).loc Cert.Kernel3Ideal.main_arg0)
  refine ⟨fun c => Cert.Voxels.nearest (X c), fun c => Cert.Voxels.below (X c), fun c => Cert.Voxels.corners (X c), X,
    (θ_run _ _ _).mono (fun r h c => ?_) (Cert.Kernel3Ideal.Value.run_blocks m g),
    (θ_run _ _ _).mono (fun r h c => ?_) (Cert.Reference3Ideal.Value.run m' g')⟩
  · obtain ⟨h1, h2, h3, h4⟩ := h c
    exact ⟨h1.trans (Cert.Kernel3Ideal.Position.array1 m c), h2.trans (Cert.Kernel3Ideal.Position.array2 m c),
      h3.trans (Cert.Kernel3Ideal.Position.array3 m c), h4, h4⟩
  · obtain ⟨h1, h2, h3, h4, h5⟩ := h c
    refine ⟨(h1.trans (Cert.Reference3Ideal.Position.result0 m' c)).trans (congrArg Cert.Voxels.nearest (hargs c)),
      (h2.trans (Cert.Reference3Ideal.Position.result1 m' c)).trans (congrArg Cert.Voxels.below (hargs c)),
      (h3.trans (Cert.Reference3Ideal.Position.result2 m' c)).trans (congrArg Cert.Voxels.corners (hargs c)), h4.trans (hargs c), h5⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_stats.Gen.facts, Cert.Pre_in_range.Gen.facts, Cert.Pre_cells.Gen.facts,
  fun m g _ => Cert.Kernel.Gen.frame m g, fun m g _ => Cert.KernelIdeal.Gen.frame m g, fun m g _ => Cert.KernelIdeal.Gen.frame m g,
  reference_frame, fun m g _ => reference_frame m g trivial,
  kernel2_frame, kernel2Ideal_frame, kernel2Ideal_frame_cells, reference2_frame, fun m g _ => reference2_frame m g trivial,
  fun m g _ => Cert.Kernel3.Gen.frame m g, fun m g _ => Cert.Kernel3Ideal.Gen.frame m g, reference3_frame,
  trivial, equal, trivial, equal2, trivial, equal3⟩

end Cert.Proof

end
